-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 3072]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![3072, 1536]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S768x768 : Shape := ⟨2, ![768, 768]⟩
abbrev S384x768 : Shape := ⟨2, ![384, 768]⟩
abbrev S8 : Shape := ⟨1, ![8]⟩
abbrev S_ : Shape := ⟨0, ![]⟩
abbrev S1 : Shape := ⟨1, ![1]⟩

abbrev nBuf : Space → Nat
  | .hbm => 3
  | .vmem => 13
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S1536x1536, .f32⟩
  | .local _ .vmem, ⟨0, _⟩ => ⟨S1536x768, .bf16⟩
  | .local _ .vmem, ⟨1, _⟩ => ⟨S768x1536, .bf16⟩
  | .local _ .vmem, ⟨2, _⟩ => ⟨S1536x1536, .f32⟩
  | .local _ .vmem, ⟨3, _⟩ => ⟨S768x768, .bf16⟩
  | .local _ .vmem, ⟨4, _⟩ => ⟨S768x768, .bf16⟩
  | .local _ .vmem, ⟨5, _⟩ => ⟨S768x768, .bf16⟩
  | .local _ .vmem, ⟨6, _⟩ => ⟨S768x768, .bf16⟩
  | .local _ .vmem, ⟨7, _⟩ => ⟨S384x768, .bf16⟩
  | .local _ .vmem, ⟨8, _⟩ => ⟨S384x768, .bf16⟩
  | .local _ .vmem, ⟨9, _⟩ => ⟨S384x768, .bf16⟩
  | .local _ .vmem, ⟨10, _⟩ => ⟨S384x768, .bf16⟩
  | .local _ .vmem, ⟨11, _⟩ => ⟨S768x768, .bf16⟩
  | .local _ .vmem, ⟨12, _⟩ => ⟨S768x768, .bf16⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_10 : BitVec 32 := 1#32
  let v15 : BitVec 32 := Scalar.muli v3 c1_i32_10
  let v16 : BitVec 32 := Scalar.addi c0_i32 v15
  v16.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_12 : BitVec 32 := 1#32
  let v17 : BitVec 32 := Scalar.muli v4 c1_i32_12
  let v18 : BitVec 32 := Scalar.addi c0_i32_13 v17
  v18.toNat
def k0_off1 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.andi v2 c1_i32_1
  let c1_i32_2 : BitVec 32 := 1#32
  let v6 : BitVec 32 := Scalar.shrsi v2 c1_i32_2
  let c1_i32_3 : BitVec 32 := 1#32
  let v7 : BitVec 32 := Scalar.andi v6 c1_i32_3
  let v8 : BitVec 32 := Scalar.xori v5 v7
  let v25 : BitVec 32 := Scalar.subi c1_i32_19 v8
  let c768_i32 : BitVec 32 := 768#32
  let v26 : BitVec 32 := Scalar.muli v25 c768_i32
  let v27 : Index := Scalar.indexCast v26
  let c0_20 : Index := 0#32
  ![v27.toNat, 0]
def k0_off2 (d0 : Dev nD) : Fin 2 → Nat :=
  let c1_i32_23 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v11 : BitVec 32 := Scalar.shrsi v2 c1_i32_6
  let c1_i32_7 : BitVec 32 := 1#32
  let v12 : BitVec 32 := Scalar.andi v11 c1_i32_7
  let v34 : BitVec 32 := Scalar.subi c1_i32_23 v12
  let c768_i32_24 : BitVec 32 := 768#32
  let v35 : BitVec 32 := Scalar.muli v34 c768_i32_24
  let v36 : Index := Scalar.indexCast v35
  let c768 : Index := 768#32
  ![v36.toNat, 768]
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_29 : BitVec 32 := 1#32
  let v43 : BitVec 32 := Scalar.muli v3 c1_i32_29
  let v44 : BitVec 32 := Scalar.addi c0_i32_30 v43
  v44.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_33 : BitVec 32 := 1#32
  let v49 : BitVec 32 := Scalar.muli v4 c1_i32_33
  let v50 : BitVec 32 := Scalar.addi c0_i32_34 v49
  v50.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.andi v2 c1_i32_1
  let c1_i32_2 : BitVec 32 := 1#32
  let v6 : BitVec 32 := Scalar.shrsi v2 c1_i32_2
  let c1_i32_3 : BitVec 32 := 1#32
  let v7 : BitVec 32 := Scalar.andi v6 c1_i32_3
  let v8 : BitVec 32 := Scalar.xori v5 v7
  let c768_i32_49 : BitVec 32 := 768#32
  let v67 : BitVec 32 := Scalar.muli v8 c768_i32_49
  let v68 : Index := Scalar.indexCast v67
  let c0_50 : Index := 0#32
  ![v68.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v11 : BitVec 32 := Scalar.shrsi v2 c1_i32_6
  let c1_i32_7 : BitVec 32 := 1#32
  let v12 : BitVec 32 := Scalar.andi v11 c1_i32_7
  let c768_i32_54 : BitVec 32 := 768#32
  let v76 : BitVec 32 := Scalar.muli v12 c768_i32_54
  let v77 : Index := Scalar.indexCast v76
  let c768_55 : Index := 768#32
  ![v77.toNat, 768]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.andi v2 c1_i32_1
  let c1_i32_2 : BitVec 32 := 1#32
  let v6 : BitVec 32 := Scalar.shrsi v2 c1_i32_2
  let c1_i32_3 : BitVec 32 := 1#32
  let v7 : BitVec 32 := Scalar.andi v6 c1_i32_3
  let v8 : BitVec 32 := Scalar.xori v5 v7
  let c768_i32_59 : BitVec 32 := 768#32
  let v85 : BitVec 32 := Scalar.muli v8 c768_i32_59
  let c1_i32_60 : BitVec 32 := 1#32
  let c1_i32_4 : BitVec 32 := 1#32
  let v9 : BitVec 32 := Scalar.shrsi v2 c1_i32_4
  let c1_i32_5 : BitVec 32 := 1#32
  let v10 : BitVec 32 := Scalar.andi v9 c1_i32_5
  let v86 : BitVec 32 := Scalar.subi c1_i32_60 v10
  let c384_i32 : BitVec 32 := 384#32
  let v87 : BitVec 32 := Scalar.muli v86 c384_i32
  let v88 : BitVec 32 := Scalar.addi v85 v87
  let v89 : Index := Scalar.indexCast v88
  let c0_61 : Index := 0#32
  ![v89.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v11 : BitVec 32 := Scalar.shrsi v2 c1_i32_6
  let c1_i32_7 : BitVec 32 := 1#32
  let v12 : BitVec 32 := Scalar.andi v11 c1_i32_7
  let c768_i32_64 : BitVec 32 := 768#32
  let v96 : BitVec 32 := Scalar.muli v12 c768_i32_64
  let c1_i32_65 : BitVec 32 := 1#32
  let c1_i32_8 : BitVec 32 := 1#32
  let v13 : BitVec 32 := Scalar.andi v2 c1_i32_8
  let v97 : BitVec 32 := Scalar.subi c1_i32_65 v13
  let c384_i32_66 : BitVec 32 := 384#32
  let v98 : BitVec 32 := Scalar.muli v97 c384_i32_66
  let v99 : BitVec 32 := Scalar.addi v96 v98
  let v100 : Index := Scalar.indexCast v99
  let c768_67 : Index := 768#32
  ![v100.toNat, 768]
def k0_dev5 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_72 : BitVec 32 := 1#32
  let v107 : BitVec 32 := Scalar.muli v4 c1_i32_72
  let v108 : BitVec 32 := Scalar.addi c0_i32_73 v107
  v108.toNat
def k0_dev6 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_78 : BitVec 32 := 1#32
  let v114 : BitVec 32 := Scalar.muli v3 c1_i32_78
  let v115 : BitVec 32 := Scalar.addi c0_i32_79 v114
  v115.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.andi v2 c1_i32_1
  let c1_i32_2 : BitVec 32 := 1#32
  let v6 : BitVec 32 := Scalar.shrsi v2 c1_i32_2
  let c1_i32_3 : BitVec 32 := 1#32
  let v7 : BitVec 32 := Scalar.andi v6 c1_i32_3
  let v8 : BitVec 32 := Scalar.xori v5 v7
  let c768_i32_104 : BitVec 32 := 768#32
  let v137 : BitVec 32 := Scalar.muli v8 c768_i32_104
  let c1_i32_4 : BitVec 32 := 1#32
  let v9 : BitVec 32 := Scalar.shrsi v2 c1_i32_4
  let c1_i32_5 : BitVec 32 := 1#32
  let v10 : BitVec 32 := Scalar.andi v9 c1_i32_5
  let c384_i32_105 : BitVec 32 := 384#32
  let v138 : BitVec 32 := Scalar.muli v10 c384_i32_105
  let v139 : BitVec 32 := Scalar.addi v137 v138
  let v140 : Index := Scalar.indexCast v139
  let c0_106 : Index := 0#32
  ![v140.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v11 : BitVec 32 := Scalar.shrsi v2 c1_i32_6
  let c1_i32_7 : BitVec 32 := 1#32
  let v12 : BitVec 32 := Scalar.andi v11 c1_i32_7
  let c768_i32_110 : BitVec 32 := 768#32
  let v148 : BitVec 32 := Scalar.muli v12 c768_i32_110
  let c1_i32_8 : BitVec 32 := 1#32
  let v13 : BitVec 32 := Scalar.andi v2 c1_i32_8
  let c384_i32_111 : BitVec 32 := 384#32
  let v149 : BitVec 32 := Scalar.muli v13 c384_i32_111
  let v150 : BitVec 32 := Scalar.addi v148 v149
  let v151 : Index := Scalar.indexCast v150
  let c768_112 : Index := 768#32
  ![v151.toNat, 768]
def k0_dev7 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_128 : BitVec 32 := 1#32
  let v179 : BitVec 32 := Scalar.muli v4 c1_i32_128
  let v180 : BitVec 32 := Scalar.addi c0_i32_129 v179
  v180.toNat
def k0_dev8 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_133 : BitVec 32 := 1#32
  let v186 : BitVec 32 := Scalar.muli v3 c1_i32_133
  let v187 : BitVec 32 := Scalar.addi c0_i32_134 v186
  v187.toNat
def k0_dev9 (d0 : Dev nD) : Nat :=
  let c0_i32_181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_180 : BitVec 32 := 1#32
  let v241 : BitVec 32 := Scalar.muli v3 c1_i32_180
  let v242 : BitVec 32 := Scalar.addi c0_i32_181 v241
  v242.toNat
def k0_dev10 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_183 : BitVec 32 := 1#32
  let v247 : BitVec 32 := Scalar.muli v4 c1_i32_183
  let v248 : BitVec 32 := Scalar.addi c0_i32_184 v247
  v248.toNat
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x3072 : Shape := ⟨2, ![1536, 3072]⟩
abbrev S3072x1536 : Shape := ⟨2, ![3072, 1536]⟩
abbrev S1536x1536 : Shape := ⟨2, ![1536, 1536]⟩

abbrev nBuf : Space → Nat
  | .hbm => 5
  | .vmem => 0
  | .smem => 0
  | _ => 0

abbrev bufTy : (tb : Table) → Fin (tcTables nBuf tb) → BufTy
  | .hbm, ⟨0, _⟩ => ⟨S1536x3072, .bf16⟩
  | .hbm, ⟨1, _⟩ => ⟨S3072x1536, .bf16⟩
  | .hbm, ⟨2, _⟩ => ⟨S1536x1536, .f32⟩
  | .hbm, ⟨3, _⟩ => ⟨S1536x1536, .bf16⟩
  | .hbm, ⟨4, _⟩ => ⟨S1536x1536, .f32⟩
  | _, _ => ⟨S1536x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Contents.lean ====
/-
# What every buffer holds, step by step

The kernel runs on four devices. Each one multiplies its column block of `A` by its row block of `B`
and gets a partial product of the whole size; the result on every device is the sum of the four partial
products. The columns of the result fall in two halves, and the two halves are summed by two exchanges that run side by side, one
starting with the partner `pA`, the other with the partner `pB`.

This file fixes the partners, the buffers and the offsets, and defines the contents of the result buffer after each store
and of each message, as plain functions of the devices' operand blocks. No definition here looks at the program;
the run in `Body` shows that the program produces these contents.
-/
module

public import proofs.«01_k».proof.Proof.Gen.KernelIdeal
public import proofs.«01_k».proof.Proof.Gen.KernelIdeal.Skeleton
public import Idealize.ShloMosaic.Lib.Tactic

@[expose] public section

noncomputable section

namespace Cert.AllReduce

open Cert.KernelIdeal Cert.KernelIdeal.Gen
open Idealize.ShloMosaic Idealize.ShloMosaic.TcCoe

variable {F : FTy → Type} [FloatOps F]

/-! ## The partners -/

/-- The partner of the first kind: device `c xor 1`. -/
def pA : Dev nD → Dev nD := fun | 0 => 1 | 1 => 0 | 2 => 3 | 3 => 2
/-- The partner of the second kind: device `c xor 3`. -/
def pB : Dev nD → Dev nD := fun | 0 => 3 | 1 => 2 | 2 => 1 | 3 => 0

theorem pA_pA (c : Dev nD) : pA (pA c) = c := by revert c; decide
theorem pB_pB (c : Dev nD) : pB (pB c) = c := by revert c; decide

/-- Which messages go to the partner `pA`: the others go to `pB`. -/
def viaA : Fin 8 → Bool := fun | 0 => true | 1 => false | 2 => false | 3 => true | 4 => false | 5 => true | 6 => true | 7 => false
/-- The partner of message `j`, both its receiver and the device whose message `j` arrives here. -/
def mate (j : Fin 8) (c : Dev nD) : Dev nD := if viaA j then pA c else pB c

theorem mate_mate (j : Fin 8) (c : Dev nD) : mate j (mate j c) = c := by revert j c; decide

/-! ## The buffers -/

abbrev aM : Memref sig .tc .vmem S1536x768 .bf16 := Memref.whole cc0_stg0_0
abbrev bM : Memref sig .tc .vmem S768x1536 .bf16 := Memref.whole cc0_stg1_0
abbrev oM : Memref sig .tc .vmem S1536x1536 .f32 := Memref.whole cc0_stg2_0
/-- The two send buffers. -/
abbrev sA : Memref sig .tc .vmem S768x768 .bf16 := Memref.whole cc0_scratch0
abbrev sB : Memref sig .tc .vmem S768x768 .bf16 := Memref.whole cc0_scratch1
/-- The landing buffers, named by the message that lands there. -/
abbrev r0M : Memref sig .tc .vmem S768x768 .bf16 := Memref.whole cc0_scratch2
abbrev r1M : Memref sig .tc .vmem S768x768 .bf16 := Memref.whole cc0_scratch3
abbrev r3M : Memref sig .tc .vmem S384x768 .bf16 := Memref.whole cc0_scratch4
abbrev r2M : Memref sig .tc .vmem S384x768 .bf16 := Memref.whole cc0_scratch5
abbrev r5M : Memref sig .tc .vmem S384x768 .bf16 := Memref.whole cc0_scratch6
abbrev r4M : Memref sig .tc .vmem S384x768 .bf16 := Memref.whole cc0_scratch7
abbrev r6M : Memref sig .tc .vmem S768x768 .bf16 := Memref.whole cc0_scratch8
abbrev r7M : Memref sig .tc .vmem S768x768 .bf16 := Memref.whole cc0_scratch9

/-- The upper 384 rows of a send buffer. -/
abbrev topRect : Rect S768x768 := Rect.unit (s := S768x768) ![0, 0] S384x768.size inb_S768x768_S384x768_0_0
abbrev top (b : Memref sig .tc .vmem S768x768 .bf16) : Memref sig .tc .vmem S384x768 .bf16 := b.slice topRect (fun _ => rfl)

/-! ## Reading and writing a block of the result buffer -/

/-- A block of 768 rows and 768 columns of the result buffer. -/
abbrev boxH (off : Fin 2 → ℕ) (inb : ∀ a, off a + S768x768.size a ≤ S1536x1536.size a) : Rect S1536x1536 :=
  Rect.unit (s := S1536x1536) off S768x768.size inb
/-- A block of 384 rows and 768 columns. -/
abbrev boxQ (off : Fin 2 → ℕ) (inb : ∀ a, off a + S384x768.size a ≤ S1536x1536.size a) : Rect S1536x1536 :=
  Rect.unit (s := S1536x1536) off S384x768.size inb

abbrev getH (off : Fin 2 → ℕ) (inb : ∀ a, off a + S768x768.size a ≤ S1536x1536.size a) (f : Vec F S1536x1536 .f32) : Vec F S768x768 .f32 :=
  oM.view.readAt (Elt F) (boxH off inb).toLoadRect f
abbrev getQ (off : Fin 2 → ℕ) (inb : ∀ a, off a + S384x768.size a ≤ S1536x1536.size a) (f : Vec F S1536x1536 .f32) : Vec F S384x768 .f32 :=
  oM.view.readAt (Elt F) (boxQ off inb).toLoadRect f
abbrev putH (off : Fin 2 → ℕ) (inb : ∀ a, off a + S768x768.size a ≤ S1536x1536.size a) (f : Vec F S1536x1536 .f32) (w : Vec F S768x768 .f32) :
    Vec F S1536x1536 .f32 := (oM.access (boxH off inb)).write (Elt F) f w Finset.univ
abbrev putQ (off : Fin 2 → ℕ) (inb : ∀ a, off a + S384x768.size a ≤ S1536x1536.size a) (f : Vec F S1536x1536 .f32) (w : Vec F S384x768 .f32) :
    Vec F S1536x1536 .f32 := (oM.access (boxQ off inb)).write (Elt F) f w Finset.univ

/-! ## The contents -/

variable (A : Dev nD → Vec F S1536x768 .bf16) (B : Dev nD → Vec F S768x1536 .bf16)

/-- Device `c`'s partial product. -/
def out0 (c : Dev nD) : Vec F S1536x1536 .f32 := k0_pay1 (A c) (B c)

/-- Messages 0 and 1: the half of each column half that the device gives away. -/
def msg0 (c : Dev nD) : Vec F S768x768 .bf16 := k0_pay2 (getH (k0_off1 c) (k0_off1_inb c) (out0 A B c))
def msg1 (c : Dev nD) : Vec F S768x768 .bf16 := k0_pay3 (getH (k0_off2 c) (k0_off2_inb c) (out0 A B c))

/-- The result buffer once the half it keeps has the partner's half added. -/
def out1 (c : Dev nD) : Vec F S1536x1536 .f32 :=
  putH (k0_off3 c) (k0_off3_inb c) (out0 A B c) (k0_pay4 (getH (k0_off3 c) (k0_off3_inb c) (out0 A B c)) (msg0 A B (pA c)))
def out2 (c : Dev nD) : Vec F S1536x1536 .f32 :=
  putH (k0_off4 c) (k0_off4_inb c) (out1 A B c) (k0_pay5 (getH (k0_off4 c) (k0_off4_inb c) (out1 A B c)) (msg1 A B (pB c)))

/-- Messages 2 and 3: the quarter given away. -/
def msg2 (c : Dev nD) : Vec F S384x768 .bf16 := k0_pay7 (k0_pay6 (getQ (k0_off5 c) (k0_off5_inb c) (out2 A B c)))
def msg3 (c : Dev nD) : Vec F S384x768 .bf16 := k0_pay8 (getQ (k0_off6 c) (k0_off6_inb c) (out2 A B c))

def out3 (c : Dev nD) : Vec F S1536x1536 .f32 :=
  putQ (k0_off7 c) (k0_off7_inb c) (out2 A B c) (k0_pay9 (getQ (k0_off7 c) (k0_off7_inb c) (out2 A B c)) (msg2 A B (pB c)))
def out4 (c : Dev nD) : Vec F S1536x1536 .f32 :=
  putQ (k0_off8 c) (k0_off8_inb c) (out3 A B c) (k0_pay10 (getQ (k0_off8 c) (k0_off8_inb c) (out3 A B c)) (msg3 A B (pA c)))

/-- Messages 4 and 5: the finished quarter. -/
def msg4 (c : Dev nD) : Vec F S384x768 .bf16 := k0_pay11 (getQ (k0_off7 c) (k0_off7_inb c) (out4 A B c))
def msg5 (c : Dev nD) : Vec F S384x768 .bf16 := k0_pay12 (getQ (k0_off8 c) (k0_off8_inb c) (out4 A B c))

def out5 (c : Dev nD) : Vec F S1536x1536 .f32 := putQ (k0_off5 c) (k0_off5_inb c) (out4 A B c) (k0_pay13 (msg4 A B (pB c)))
def out6 (c : Dev nD) : Vec F S1536x1536 .f32 := putQ (k0_off6 c) (k0_off6_inb c) (out5 A B c) (k0_pay14 (msg5 A B (pA c)))

/-- Messages 6 and 7: the finished half. -/
def msg6 (c : Dev nD) : Vec F S768x768 .bf16 := k0_pay15 (getH (k0_off3 c) (k0_off3_inb c) (out6 A B c))
def msg7 (c : Dev nD) : Vec F S768x768 .bf16 := k0_pay16 (getH (k0_off4 c) (k0_off4_inb c) (out6 A B c))

def out7 (c : Dev nD) : Vec F S1536x1536 .f32 := putH (k0_off1 c) (k0_off1_inb c) (out6 A B c) (k0_pay17 (msg6 A B (pA c)))
/-- The result buffer at the end. -/
def out8 (c : Dev nD) : Vec F S1536x1536 .f32 := putH (k0_off2 c) (k0_off2_inb c) (out7 A B c) (k0_pay18 (msg7 A B (pB c)))

end Cert.AllReduce

end
-- ==== Proof.Schedule.lean ====
/-
# The protocol of the eight messages

Each device owns one barrier cell, eight departure cells and eight arrival cells; each is used for a single round.
The barrier cell is credited by the two partners, and each of them hands over its own four landing buffers for this device's
messages. The arrival cell of message `j` is credited when message `j` of the partner has landed and yields the landing buffer
with the message in it; the departure cell yields the sent part of the send buffer.
-/
module

public import proofs.«01_k».proof.Proof.Contents
public import proofs.«01_k».proof.Proof.Gen.KernelIdeal.Launch
public import Idealize.ShloMosaic.Lib.Pipeline.Launch
public import Idealize.ShloMosaic.Lib.Pipeline.Kit

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's resources beside the pipeline's own; its duties are named by a truth value. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The barrier semaphore, which the launch does not own. -/
abbrev barS : Sem sig := (SemArray.scalar (sig.barrier 0 rfl) : Sems sig S_).sem
/-- The semaphore of message `j`'s departure. -/
def sendS (j : Fin 8) : DmaSem sig := ⟨3 + j.val, by have := j.isLt; show 3 + j.val < 19; omega⟩
/-- The semaphore of message `j`'s arrival. -/
def recvS (j : Fin 8) : DmaSem sig := ⟨11 + j.val, by have := j.isLt; show 11 + j.val < 19; omega⟩

abbrev barCell (c : Dev nD) : GSem nD τ sig := ((c : Thread nD τ), .reg barS)
abbrev sendCell (c : Dev nD) (j : Fin 8) : GSem nD τ sig := ((c : Thread nD τ), .dma (sendS j))
abbrev recvCell (c : Dev nD) (j : Fin 8) : GSem nD τ sig := ((c : Thread nD τ), .dma (recvS j))

/-- What a semaphore is to the protocol. -/
inductive Role where
  | bar
  | send (j : Fin 8)
  | recv (j : Fin 8)
  | other
deriving DecidableEq

/-- The role of each semaphore. -/
def role : SemLoc sig → Role
  | .reg s => if s = barS then .bar else .other
  | .dma s =>
    if s.val < 3 then .other
    else if h : s.val < 11 then .send ⟨s.val - 3, by omega⟩
    else .recv ⟨s.val - 11, by have : s.val < 19 := s.isLt; omega⟩

theorem role_bar : role (.reg barS) = .bar := by decide
theorem role_send (j : Fin 8) : role (.dma (sendS j)) = .send j := by revert j; decide
theorem role_recv (j : Fin 8) : role (.dma (recvS j)) = .recv j := by revert j; decide

/-- The semaphore of a role is determined by it. -/
theorem role_inj {s s' : SemLoc sig} (h : role s = role s') (h' : role s ≠ .other) : s = s' := by
  revert s s'; decide

/-! ## Credits -/

/-- The credit of a message of 768 rows, and of one of 384 rows. -/
abbrev NH : ℕ := r0M.view.dmaCredit
abbrev NQ : ℕ := r2M.view.dmaCredit
/-- The credit of message `j`. -/
def size : Fin 8 → ℕ := fun | 0 => NH | 1 => NH | 2 => NQ | 3 => NQ | 4 => NQ | 5 => NQ | 6 => NH | 7 => NH
theorem size_pos (j : Fin 8) : 0 < size j := by
  have h1 : 0 < NH := View.dmaCredit_pos _ (by decide)
  have h2 : 0 < NQ := View.dmaCredit_pos _ (by decide)
  fin_cases j <;> assumption

/-! ## The payloads -/

/-- The elements of a buffer on device `c`, at contents `f`. -/
def at_ {s : Shape} {e : EltTy} (b : Memref sig .tc .vmem s e) (c : Dev nD) (f : Buf (Elt F) (b.view.loc (c : Thread nD τ))) : sProp 𝕄 :=
  b.view.loc (c : Thread nD τ) ↦[b.view.set]{fullShare} f
/-- The same at some contents. -/
abbrev any {s : Shape} {e : EltTy} (b : Memref sig .tc .vmem s e) (c : Dev nD) : sProp 𝕄 := iprop(∃ f, at_ (F := F) b c f)

omit [FloatOps F] in
instance at_storable {s : Shape} {e : EltTy} (b : Memref sig .tc .vmem s e) (c : Dev nD) (f) : BI.Storable (upEmb : UEmb _ 𝕄) (at_ (F := F) b c f) := by
  unfold at_; infer_instance
omit [FloatOps F] in
instance any_storable {s : Shape} {e : EltTy} (b : Memref sig .tc .vmem s e) (c : Dev nD) : BI.Storable (upEmb : UEmb _ 𝕄) (any (F := F) b c) := by
  unfold any; infer_instance

/-- Device `d`'s four landing buffers for the messages of its partner `pA`, and for those of `pB`. -/
def landA (d : Dev nD) : sProp 𝕄 := iprop(any (F := F) r0M d ∗ any (F := F) r3M d ∗ any (F := F) r5M d ∗ any (F := F) r6M d)
def landB (d : Dev nD) : sProp 𝕄 := iprop(any (F := F) r1M d ∗ any (F := F) r2M d ∗ any (F := F) r4M d ∗ any (F := F) r7M d)

omit [FloatOps F] in
instance landA_storable (d : Dev nD) : BI.Storable (upEmb : UEmb _ 𝕄) (landA (F := F) d) := by unfold landA; infer_instance
omit [FloatOps F] in
instance landB_storable (d : Dev nD) : BI.Storable (upEmb : UEmb _ 𝕄) (landB (F := F) d) := by unfold landB; infer_instance

/-- What a device gets from its barrier: its partners' landing buffers. -/
def barPay (c : Dev nD) : Bool → sProp 𝕄 := fun | false => landA (F := F) (pA c) | true => landB (F := F) (pB c)

/-- What message `j` leaves behind when it has departed: the sent part of the send buffer. -/
def sendPay (c : Dev nD) : Fin 8 → sProp 𝕄 := fun
  | 0 => any (F := F) sA c | 1 => any (F := F) sB c | 2 => any (F := F) (top sB) c | 3 => any (F := F) (top sA) c
  | 4 => any (F := F) (top sB) c | 5 => any (F := F) (top sA) c | 6 => any (F := F) sA c | 7 => any (F := F) sB c

variable (A : Dev nD → Vec F S1536x768 .bf16) (B : Dev nD → Vec F S768x1536 .bf16)

/-- What the arrival of message `j` gives: the landing buffer holding the partner's message. -/
def recvPay (c : Dev nD) : Fin 8 → sProp 𝕄 := fun
  | 0 => at_ r0M c (msg0 A B (pA c)) | 1 => at_ r1M c (msg1 A B (pB c)) | 2 => at_ r2M c (msg2 A B (pB c)) | 3 => at_ r3M c (msg3 A B (pA c))
  | 4 => at_ r4M c (msg4 A B (pB c)) | 5 => at_ r5M c (msg5 A B (pA c)) | 6 => at_ r6M c (msg6 A B (pA c)) | 7 => at_ r7M c (msg7 A B (pB c))

instance barPay_storable (c : Dev nD) (d : Bool) : BI.Storable (upEmb : UEmb _ 𝕄) (barPay (F := F) c d) := by
  cases d <;> (unfold barPay; infer_instance)
instance sendPay_storable (c : Dev nD) (j : Fin 8) : BI.Storable (upEmb : UEmb _ 𝕄) (sendPay (F := F) c j) := by
  fin_cases j <;> (unfold sendPay; infer_instance)
instance recvPay_storable (c : Dev nD) (j : Fin 8) : BI.Storable (upEmb : UEmb _ 𝕄) (recvPay A B c j) := by
  fin_cases j <;> (unfold recvPay; infer_instance)

/-! ## The schedule -/

/-- The duties of a role: two at the barrier, one at a departure or an arrival. -/
def roleDuties : Role → Finset Bool
  | .bar => Finset.univ | .send _ => {false} | .recv _ => {false} | .other => ∅
/-- The credit of a duty. -/
def roleAmount : Role → ℕ
  | .bar => 1 | .send j => size j | .recv j => size j | .other => 1
/-- What a duty hands over. -/
def rolePay (c : Dev nD) (d : Bool) : Role → sProp 𝕄
  | .bar => barPay (F := F) c d | .send j => sendPay (F := F) c j | .recv j => recvPay A B c j | .other => iprop(emp)

/-- The schedule: one round, on the tensor cores' cells. -/
def sched : Rounds.Schedule (GSem nD τ sig) Bool 𝕄 where
  duties g r := if r = 0 ∧ g.1.2 = .tc then roleDuties (role g.2) else ∅
  unitless _ := False
  amount g _ _ := roleAmount (role g.2)
  payload g _ d := rolePay A B g.1.1 d (role g.2)
  amount_pos g _ _ _ := by
    cases role g.2 with
    | bar => exact Nat.one_pos
    | send j => exact size_pos j
    | recv j => exact size_pos j
    | other => exact Nat.one_pos

instance sched_payload_storable (g : GSem nD τ sig) (r : ℕ) (d : Bool) : BI.Storable (upEmb : UEmb _ 𝕄) ((sched A B).payload g r d) := by
  show BI.Storable upEmb (rolePay A B g.1.1 d (role g.2))
  cases role g.2 <;> (unfold rolePay; infer_instance)

variable (c : Dev nD) (j : Fin 8)

theorem duties_bar : (sched A B).duties (barCell c) 0 = Finset.univ := rfl
theorem duties_send : (sched A B).duties (sendCell c j) 0 = {false} := by
  dsimp only [sched]; rw [if_pos ⟨rfl, rfl⟩, role_send]; rfl
theorem duties_recv : (sched A B).duties (recvCell c j) 0 = {false} := by
  dsimp only [sched]; rw [if_pos ⟨rfl, rfl⟩, role_recv]; rfl
theorem duties_later (g : GSem nD τ sig) : ∀ r, 1 ≤ r → (sched A B).duties g r = ∅ :=
  fun r hr => if_neg fun h => by omega

theorem amount_bar (d : Bool) : (sched A B).amount (barCell c) 0 d = 1 := rfl
theorem amount_send (d : Bool) : (sched A B).amount (sendCell c j) 0 d = size j := by dsimp only [sched]; rw [role_send]; rfl
theorem amount_recv (d : Bool) : (sched A B).amount (recvCell c j) 0 d = size j := by dsimp only [sched]; rw [role_recv]; rfl

theorem payload_bar (d : Bool) : (sched A B).payload (barCell c) 0 d = barPay (F := F) c d := rfl
theorem payload_send (d : Bool) : (sched A B).payload (sendCell c j) 0 d = sendPay (F := F) c j := by dsimp only [sched]; rw [role_send]; rfl
theorem payload_recv (d : Bool) : (sched A B).payload (recvCell c j) 0 d = recvPay A B c j := by dsimp only [sched]; rw [role_recv]; rfl

theorem expect_bar : (sched A B).expect (barCell c) 0 = 2 := by
  unfold Schedule.expect Schedule.amountOf; rw [duties_bar]; rfl
theorem expect_send : (sched A B).expect (sendCell c j) 0 = size j := by
  unfold Schedule.expect Schedule.amountOf; rw [duties_send, Finset.sum_singleton, amount_send]
theorem expect_recv : (sched A B).expect (recvCell c j) 0 = size j := by
  unfold Schedule.expect Schedule.amountOf; rw [duties_recv, Finset.sum_singleton, amount_recv]

/-- The whole payload of a round: at the barrier both partners' landing buffers. -/
theorem rest_bar : bigSep ((sched A B).duties (barCell c) 0 \ ∅) (fun d => (sched A B).payload (barCell c) 0 d)
    = iprop(landA (F := F) (pA c) ∗ landB (F := F) (pB c)) := by
  rw [Finset.sdiff_empty, duties_bar, bigSep_univ_eq_bigSepL [false, true] (by decide) (by decide), bigSepL_cons_cons, bigSepL_singleton]
  rfl
theorem rest_send : bigSep ((sched A B).duties (sendCell c j) 0 \ ∅) (fun d => (sched A B).payload (sendCell c j) 0 d) = sendPay (F := F) c j := by
  rw [Finset.sdiff_empty, duties_send, bigSep_singleton, payload_send]
theorem rest_recv : bigSep ((sched A B).duties (recvCell c j) 0 \ ∅) (fun d => (sched A B).payload (recvCell c j) 0 d) = recvPay A B c j := by
  rw [Finset.sdiff_empty, duties_recv, bigSep_singleton, payload_recv]

/-! ## What a device owes, and the order of the waits -/

/-- The credit device `c` owes its partner for message `j`. -/
def due (c : Dev nD) (j : Fin 8) : CellTallies nD τ sig Unit := tallyAt (recvCell (mate j c) j) () (size j)
/-- What it still owes once the messages before the `k`-th have been sent. -/
def owed (c : Dev nD) (k : ℕ) : CellTallies nD τ sig Unit := ∑ j ∈ Finset.univ.filter (fun j : Fin 8 => k ≤ j.val), due c j
/-- What it owes at launch: all messages and a unit to each partner's barrier. -/
def O₀ (c : Dev nD) : CellTallies nD τ sig Unit := (owed c 0 + tallyAt (barCell (pB c)) () 1) + tallyAt (barCell (pA c)) () 1

theorem owed_step (c : Dev nD) (j : Fin 8) : owed c j.val = owed c (j.val + 1) + due c j := by
  unfold owed
  have : Finset.univ.filter (fun i : Fin 8 => j.val ≤ i.val) = insert j (Finset.univ.filter (fun i : Fin 8 => j.val + 1 ≤ i.val)) := by
    revert j; decide
  rw [this, Finset.sum_insert (by simp), add_comm]
theorem owed_end (c : Dev nD) : owed c 8 = 0 := by
  unfold owed
  rw [show Finset.univ.filter (fun j : Fin 8 => 8 ≤ j.val) = ∅ from by decide, Finset.sum_empty]

/-- Anything owed from the `k`-th message on is owed at the arrival cell of a message from the `k`-th on. -/
theorem owed_pos {c : Dev nD} {k : ℕ} {g : GSem nD τ sig} {u : Unit} (h : 0 < owed c k g u) : ∃ j : Fin 8, k ≤ j.val ∧ g = recvCell (mate j c) j := by
  unfold owed at h
  rw [Finset.sum_apply, Finsupp.finset_sum_apply] at h
  obtain ⟨j, hj, hp⟩ := Finset.exists_ne_zero_of_sum_ne_zero (Nat.pos_iff_ne_zero.mp h)
  refine ⟨j, (Finset.mem_filter.mp hj).2, ?_⟩
  by_contra hn
  refine hp ?_
  unfold due
  rw [tallyAt_apply, if_neg fun h' => hn h'.1]

theorem O₀_pos {c : Dev nD} {g : GSem nD τ sig} {u : Unit} (h : 0 < O₀ c g u) :
    (∃ j : Fin 8, g = recvCell (mate j c) j) ∨ g = barCell (pB c) ∨ g = barCell (pA c) := by
  unfold O₀ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1), add_zero, add_zero] at h
  obtain ⟨j, -, hj⟩ := owed_pos h
  exact hn.1 ⟨j, hj⟩

/-- The cells whose levels count: the tensor cores'. -/
def L (g : GSem nD τ sig) : Finset Unit := if g.1.2 = .tc then {()} else ∅
/-- The order of the waits: everything local first, then the barrier, then the arrivals in their order. -/
def roleLv : Role → ℕ
  | .bar => 1 | .recv j => 2 + j.val | .send _ => 0 | .other => 0
def lv (g : GSem nD τ sig) (_ : Unit) : ℕ := roleLv (role g.2)

theorem L_of_ne (g : GSem nD τ sig) (h : g.1.2 ≠ .tc) : L g = ∅ := if_neg h
theorem L_tc (c : Dev nD) (sm : SemLoc sig) : L ((c : Thread nD τ), sm) = {()} := if_pos rfl

/-- A wait on a cell below the `k`-th arrival is in order while only messages from the `k`-th on are owed. -/
theorem mayWait_owed (c : Dev nD) (sm : SemLoc sig) (k : ℕ) (hk : roleLv (role sm) < 2 + k) :
    (levAts L lv : sProp 𝕄) ⊢ MayWait (c : Thread nD τ) sm () (owed c k) :=
  MayOwe.of_cut (L := L) (lev := lv) (roleLv (role sm)) (fun p hp => by rw [Finset.mem_singleton.mp hp, L_tc]; exact Finset.mem_singleton_self _)
    (fun g u hg => by obtain ⟨j, -, rfl⟩ := owed_pos hg; rw [L_tc]; exact Finset.mem_singleton_self _)
    (fun p hp => by rw [Finset.mem_singleton.mp hp]; exact le_refl _)
    (fun g u hg => by
      obtain ⟨j, hj, rfl⟩ := owed_pos hg
      show _ < roleLv (role (.dma (recvS j)))
      rw [role_recv]; show _ < 2 + j.val; omega)

/-- A wait on a local cell is in order whatever of the launch's debt is owed. -/
theorem mayWait_stage (c : Dev nD) (sm : SemLoc sig) (hs : roleLv (role sm) = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | rfl | rfl <;> exact Finset.mem_singleton_self _)
      (fun p hp => by rw [Finset.mem_singleton.mp hp]; exact le_of_eq hs)
      (fun g u hg => by
        rcases O₀_pos hg with ⟨j, rfl⟩ | rfl | rfl
        · show _ < roleLv (role (.dma (recvS j))); rw [role_recv]; show _ < 2 + j.val; omega
        · exact Nat.one_pos
        · exact Nat.one_pos)
  · rw [MayWait_zero]; iintro -; iempintro

end Cert.AllReduce

end
-- ==== Proof.Steps.lean ====
/-
# One step of each kind

Every transfer, wait and signal of the kernel is an instance of one of the rules proved here: sending message `j`, waiting for its
departure, waiting for its arrival, signalling a partner's barrier and waiting at the own barrier. A device that has
waited on a cell closes it and holds its counter at zero from then on.
-/
module

public import proofs.«01_k».proof.Proof.Schedule

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells as one family -/

/-- A device's own semaphores: departures on the left, arrivals on the right. -/
abbrev Own : Type := Fin 8 ⊕ Fin 8
abbrev osem : Own → SemLoc sig := Sum.elim (fun j => .dma (sendS j)) (fun j => .dma (recvS j))
/-- Those and the barrier. -/
abbrev Slot : Type := Unit ⊕ Own
abbrev csem : Slot → SemLoc sig := Sum.elim (fun _ => .reg barS) osem
abbrev kcell (ck : Dev nD × Slot) : GSem nD τ sig := ((ck.1 : Thread nD τ), csem ck.2)
abbrev iBar : Slot := .inl ()
abbrev iSend (j : Fin 8) : Slot := .inr (.inl j)
abbrev iRecv (j : Fin 8) : Slot := .inr (.inr j)

variable (A : Dev nD → Vec F S1536x768 .bf16) (B : Dev nD → Vec F S768x1536 .bf16)

/-- What everyone knows: the invariant of every cell, and that it has reached its only round. -/
def records (K : Dev nD × Slot → ℕ) : sProp 𝕄 :=
  iprop((bigSep Finset.univ fun ck : Dev nD × Slot => cellInv ER (sched A B) (K ck) (kcell ck))
    ∗ bigSep Finset.univ fun ck : Dev nD × Slot => reached ER (kcell ck) 0)

instance records_persistent (K : Dev nD × Slot → ℕ) : BI.Persistent (records A B K) := by unfold records; infer_instance

theorem rec_inv (K : Dev nD × Slot → ℕ) (ck : Dev nD × Slot) : records A B K ⊢ cellInv ER (sched A B) (K ck) (kcell ck) := by
  unfold records; exact sep_elim_left.trans (bigSep_elim (Finset.mem_univ ck))
theorem rec_reached (K : Dev nD × Slot → ℕ) (ck : Dev nD × Slot) : records A B K ⊢ reached ER (kcell ck) 0 := by
  unfold records; exact sep_elim_right.trans (bigSep_elim (Finset.mem_univ ck))

/-- The records, and the levels of the cells. -/
def known (K : Dev nD × Slot → ℕ) : sProp 𝕄 := iprop(records A B K ∗ levAts L lv)

instance known_persistent (K : Dev nD × Slot → ℕ) : BI.Persistent (known A B K) := by unfold known; infer_instance

/-- What device `c` owes, whatever waits it has on record. -/
def ow (c : Dev nD) (O : CellTallies nD τ sig Unit) : sProp 𝕄 := iprop(∃ W, owes (c : Thread nD τ) O W)

/-- Message `j` not sent yet: the two tokens that pay for it, the device's stand at its two cells, and the credit of the arrival. -/
def fresh (c : Dev nD) (j : Fin 8) : sProp 𝕄 :=
  iprop((dutyTok ER (sendCell c j) 0 false ∗ dutyTok ER (recvCell (mate j c) j) 0 false)
    ∗ atPos ER (sendCell c j) 0 ∅ 0 ∗ atPos ER (recvCell c j) 0 ∅ 0 ∗ cred (tallyAt (recvCell c j) () (size j)))
/-- Message `j` sent, its departure not waited for. -/
def sent (c : Dev nD) (j : Fin 8) : sProp 𝕄 :=
  iprop(cred (tallyAt (sendCell c j) () (size j)) ∗ atPos ER (sendCell c j) 0 ∅ 0
    ∗ atPos ER (recvCell c j) 0 ∅ 0 ∗ cred (tallyAt (recvCell c j) () (size j)))
/-- Message `j` departed, the partner's not waited for. -/
def gone (c : Dev nD) (j : Fin 8) : sProp 𝕄 :=
  iprop(semVal (sendCell c j) 0 ∗ atPos ER (recvCell c j) 0 ∅ 0 ∗ cred (tallyAt (recvCell c j) () (size j)))
/-- The two cells of message `j` closed. -/
def shut (c : Dev nD) (j : Fin 8) : sProp 𝕄 := iprop(semVal (sendCell c j) 0 ∗ semVal (recvCell c j) 0)

abbrev 𝒱₀ : Variants := Variants.none

variable (K : Dev nD × Slot → ℕ)

/-- Sending message `j`: the source elements and the partner's landing elements are handed in; the credit for the departure comes back,
    and one message less is owed. -/
theorem wp_msg (c n : Dev nD) (j : Fin 8) (i i' : ℕ) (hi : j.val = i) (hi' : i + 1 = i') (hn : n = mate j c) {s : Shape} {src dst : Memref sig .tc .vmem s .bf16}
    {hsc : (dst : Memref sig (Dev.tc n : Thread nD τ).2.kind .vmem s .bf16).view.ref.isScScratch = false}
    {hsrc : src.view.WordExact} {hdst : dst.view.WordExact}
    {hsem : DmaTarget.Typed .vmem (.dma (recvS j)) (.remote (Dev.tc n : Thread nD τ) dst (.dma (sendS j)) hsc)}
    {fs : Buf (Elt F) (src.view.loc (c : Thread nD τ))} {fd : Buf (Elt F) (dst.view.loc (mate j c : Thread nD τ))}
    (hN : dst.view.dmaCredit = size j)
    (hs : at_ (F := F) src c fs ⊢ sendPay (F := F) c j)
    (hd : at_ (F := F) dst (mate j c) (dst.view.write (Elt F) fd (src.view.read (Elt F) fs) Finset.univ) ⊢ recvPay A B (mate j c) j)
    {α : Type} {Q : α → sProp 𝕄} {k : PUnit → Prog (TpuEff nD τ sig (Elt F) Λ₀ .tc) α} :
    known A B K
      ⊢ iprop(at_ (F := F) src c fs -∗ at_ (F := F) dst (mate j c) fd -∗ ow (F := F) c (owed c i) -∗ fresh (F := F) c j
          -∗ ((sent (F := F) c j ∗ ow (F := F) c (owed c i'))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (sendS j)) hsc) (.dma (recvS j)) hsrc hdst hsem) k) Q) := by
  subst hn hi hi'
  unfold ow fresh sent known
  iintro ⟨#HR, -⟩ Hs Hd ⟨%W, HO⟩ ⟨⟨Ht, Ht'⟩, Hat, Hat', Hcr⟩ Hk
  rw [owed_step]
  unfold due
  iapply (Rounds.wp_send_pointsTo 𝒱₀ ER (sched A B) (c : Thread nD τ) none (κ₁ := K (c, iSend j)) (κ₂ := K (mate j c, iRecv j))
    (r₁ := 0) (r₂ := 0) (d₁ := false) (d₂ := false) (fs := fs) (fd := fd) (q := fullShare)
    (by rw [duties_send]; exact Finset.mem_singleton_self _) (by rw [duties_recv]; exact Finset.mem_singleton_self _)
    () () (size j) (sem := .dma (recvS j)) (sS := .dma (sendS j)) (c' := Dev.tc (mate j c)) (src := src) (dst := dst) hN (amount_send A B c j false) (amount_recv A B (mate j c) j false) (owed c (j.val + 1)) rfl (W := W)
    (by rw [payload_send]; exact hs)
    (by rw [payload_recv]; exact hd)) $$ [Hs Hd HO Ht Ht']
  · isplitr; · iapply (rec_inv A B K (c, iSend j)); iexact HR
    isplitr; · iapply (rec_inv A B K (mate j c, iRecv j)); iexact HR
    isplitl [Hs]; · unfold at_; iexact Hs
    isplitl [Hd]; · unfold at_; iexact Hd
    isplitl [HO]; · iexact HO
    isplitl [Ht]; · iexact Ht
    isplitr; · iapply (rec_reached A B K (c, iSend j)); iexact HR
    isplitl [Ht']; · iexact Ht'
    iapply (rec_reached A B K (mate j c, iRecv j)); iexact HR
  iintro ⟨Hc, HO⟩
  iapply Hk
  isplitr [HO]
  · isplitl [Hc]; · iexact Hc
    isplitl [Hat]; · iexact Hat
    isplitl [Hat']; · iexact Hat'
    iexact Hcr
  iexists W; iexact HO

/-- A wait on one of the device's own cells for the whole of its round, while only messages from the `i`-th on are owed: the round's payload
    comes back, and the cell is closed. -/
theorem wp_cell (c : Dev nD) (sl : Slot) (N i : ℕ) (hi : roleLv (role (csem sl)) < 2 + i)
    {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (csem sl) N P)
    (hN : N = (sched A B).expect (kcell (c, sl)) 0)
    {α : Type} {Q : α → sProp 𝕄} {k : PUnit → Prog (TpuEff nD τ sig (Elt F) Λ₀ .tc) α} :
    iprop(records A B K ∗ levAts L lv ∗ cred (tallyAt (kcell (c, sl)) () N) ∗ ow (F := F) c (owed c i) ∗ atPos ER (kcell (c, sl)) 0 ∅ 0)
      ⊢ iprop(((ow (F := F) c (owed c i) ∗ semVal (kcell (c, sl)) 0
              ∗ bigSep ((sched A B).duties (kcell (c, sl)) 0 \ ∅) (fun d => (sched A B).payload (kcell (c, sl)) 0 d))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold ow
  iintro ⟨#HR, #Hlev, Hc, ⟨%W, HO⟩, Hat⟩ Hk
  ihave #HI := (rec_inv A B K (c, sl)) $$ HR
  iapply (Rounds.wp_wait_rest_token 𝒱₀ ER (sched A B) (c : Thread nD τ) none (κ := K (c, sl)) (sm := csem sl)
      hw (Set.mem_univ _) () (O := owed c i) (W := W) (R := 0) (m := 0) (T := ∅)
      (by rw [Nat.zero_add]; exact hN)) $$ [Hc HO Hat]
  · isplitr; · iexact HI
    isplitl [Hc]; · iexact Hc
    isplitl [HO]; · iexact HO
    isplitr; · iapply (mayWait_owed (F := F) c (csem sl) i hi); iexact Hlev
    iexact Hat
  iintro ⟨HO, Hat, -, Hpay⟩
  imod (Rounds.cell_close ER (sched A B) (Set.mem_univ (K (c, sl))) (fun h => h) (R := 0 + 1) (duties_later A B (kcell (c, sl)))) $$ [Hat] with Hz
  · isplitr; · iexact HI
    iexact Hat
  iapply Hk
  isplitl [HO]; · iexists _; iexact HO
  isplitl [Hz]; · iexact Hz
  iexact Hpay

/-- Waiting for message `j` to have departed. -/
theorem wp_departed (c : Dev nD) (j : Fin 8) (i : ℕ) {s : Shape} {x y : Memref sig .tc .vmem s .bf16} {hx : x.view.WordExact} {hy : y.view.WordExact}
    (hN : y.view.dmaCredit = size j) (P : sProp 𝕄) (hP : sendPay (F := F) c j = P)
    {α : Type} {Q : α → sProp 𝕄} {k : PUnit → Prog (TpuEff nD τ sig (Elt F) Λ₀ .tc) α} :
    known A B K
      ⊢ iprop(ow (F := F) c (owed c i) -∗ sent (F := F) c j
          -∗ ((ow (F := F) c (owed c i) ∗ gone (F := F) c j ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) x y hx hy) k) Q) := by
  subst hP
  have h := wp_cell A B K (Q := Q) (k := k) c (iSend j) (size j) i (by show roleLv (role (.dma (sendS j))) < _; rw [role_send]; exact Nat.lt_of_lt_of_le Nat.two_pos (Nat.le_add_right _ _))
    (w := .waitDma2 (sendS j) x y hx hy)
    (fun P => by rw [← hN]; exact wpE_waitDma2_eq 𝒱₀ (c : Thread nD τ) none Set.univ P) (expect_send A B c j).symm
  rw [show bigSep ((sched A B).duties (kcell (c, iSend j)) 0 \ ∅) (fun d => (sched A B).payload (kcell (c, iSend j)) 0 d) = sendPay (F := F) c j
    from rest_send A B c j] at h
  unfold sent gone known
  iintro ⟨#HR, #Hlev⟩ HO ⟨Hc, Hat, Hrest⟩ Hk
  iapply h $$ [Hc HO Hat]
  · isplitr; · iexact HR
    isplitr; · iexact Hlev
    isplitl [Hc]; · iexact Hc
    isplitl [HO]; · iexact HO
    iexact Hat
  iintro ⟨HO, Hz, Hp⟩
  iapply Hk
  isplitl [HO]; · iexact HO
  isplitr [Hp]
  · isplitl [Hz]; · iexact Hz
    iexact Hrest
  iexact Hp

/-- Waiting for the partner's message `j` to have arrived. -/
theorem wp_arrived (c : Dev nD) (j : Fin 8) (i : ℕ) (hi : j.val < i) {s : Shape} {x y : Memref sig .tc .vmem s .bf16} {hx : x.view.WordExact} {hy : y.view.WordExact}
    (hN : y.view.dmaCredit = size j) (P : sProp 𝕄) (hP : recvPay A B c j = P)
    {α : Type} {Q : α → sProp 𝕄} {k : PUnit → Prog (TpuEff nD τ sig (Elt F) Λ₀ .tc) α} :
    known A B K
      ⊢ iprop(ow (F := F) c (owed c i) -∗ gone (F := F) c j
          -∗ ((ow (F := F) c (owed c i) ∗ shut (F := F) c j ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j) x y hx hy) k) Q) := by
  subst hP
  have h := wp_cell A B K (Q := Q) (k := k) c (iRecv j) (size j) i (by show roleLv (role (.dma (recvS j))) < _; rw [role_recv]; show 2 + j.val < 2 + i; omega)
    (w := .waitDma2 (recvS j) x y hx hy)
    (fun P => by rw [← hN]; exact wpE_waitDma2_eq 𝒱₀ (c : Thread nD τ) none Set.univ P) (expect_recv A B c j).symm
  rw [show bigSep ((sched A B).duties (kcell (c, iRecv j)) 0 \ ∅) (fun d => (sched A B).payload (kcell (c, iRecv j)) 0 d) = recvPay A B c j
    from rest_recv A B c j] at h
  unfold gone shut known
  iintro ⟨#HR, #Hlev⟩ HO ⟨Hz, Hat, Hc⟩ Hk
  iapply h $$ [Hc HO Hat]
  · isplitr; · iexact HR
    isplitr; · iexact Hlev
    isplitl [Hc]; · iexact Hc
    isplitl [HO]; · iexact HO
    iexact Hat
  iintro ⟨HO, Hz', Hp⟩
  iapply Hk
  isplitl [HO]; · iexact HO
  isplitr [Hp]
  · isplitl [Hz]; · iexact Hz
    iexact Hz'
  iexact Hp

/-- Waiting for both partners at the barrier: their landing buffers come with it. -/
theorem wp_barrier (c : Dev nD)
    {α : Type} {Q : α → sProp 𝕄} {k : PUnit → Prog (TpuEff nD τ sig (Elt F) Λ₀ .tc) α} :
    known A B K
      ⊢ iprop(ow (F := F) c (owed c 0) -∗ cred (tallyAt (barCell c) () 2) -∗ atPos ER (barCell c) 0 ∅ 0
          -∗ ((ow (F := F) c (owed c 0) ∗ semVal (barCell c) 0 ∗ landA (F := F) (pA c) ∗ landB (F := F) (pB c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) := by
  have h := wp_cell A B K (Q := Q) (k := k) c iBar 2 0 (by show 1 < 2 + 0; decide) (w := .semWait barS 2)
    (fun P => wpE_semWait_eq 𝒱₀ (c : Thread nD τ) none Set.univ P) (expect_bar A B c).symm
  rw [show bigSep ((sched A B).duties (kcell (c, iBar)) 0 \ ∅) (fun d => (sched A B).payload (kcell (c, iBar)) 0 d)
      = iprop(landA (F := F) (pA c) ∗ landB (F := F) (pB c)) from rest_bar A B c] at h
  unfold known
  iintro ⟨#HR, #Hlev⟩ HO Hc Hat Hk
  iapply h $$ [Hc HO Hat]
  · isplitr; · iexact HR
    isplitr; · iexact Hlev
    isplitl [Hc]; · iexact Hc
    isplitl [HO]; · iexact HO
    iexact Hat
  iexact Hk

/-- Signalling a partner's barrier: duty `d` of the cell is paid, with what it hands over. -/
theorem wp_ready (c n p : Dev nD) (d : Bool) (hn : n = p) (O O' : CellTallies nD τ sig Unit) (hO : O = O' + tallyAt (barCell p) () 1)
    {α : Type} {Q : α → sProp 𝕄} {k : PUnit → Prog (TpuEff nD τ sig (Elt F) Λ₀ .tc) α} :
    known A B K
      ⊢ iprop(ow (F := F) c O -∗ dutyTok ER (barCell p) 0 d -∗ barPay (F := F) p d
          -∗ (ow (F := F) c O' -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn
  unfold ow known
  iintro ⟨#HR, -⟩ ⟨%W, HO⟩ Ht Hp Hk
  iapply (Rounds.wp_signal 𝒱₀ ER (sched A B) (c : Thread nD τ) none (dst := (n : Thread nD τ)) (κ := K (n, iBar))
      (d := d) (by rw [duties_bar]; exact Finset.mem_univ _) (amount_bar A B n d) () O' hO) $$ [HO Ht Hp]
  · isplitr; · iapply (rec_inv A B K (n, iBar)); iexact HR
    isplitl [HO]; · iexact HO
    isplitl [Ht]; · iexact Ht
    isplitl [Hp]; · rw [payload_bar]; iexact Hp
    iapply (rec_reached A B K (n, iBar)); iexact HR
  iintro HO
  iapply Hk
  iexists W; iexact HO

/-! ## Loads, stores, and the upper half of a send buffer -/

omit [FloatOps F] in
theorem corner : (![0, 0] : Fin 2 → Nat) = fun _ => 0 := funext fun a => by fin_cases a <;> rfl

omit [FloatOps F] in
/-- A load of a whole buffer reads all of it. -/
theorem read_all {s : Shape} {e : EltTy} (b : Memref sig .tc .vmem s e) {off : Fin s.rank → ℕ} (h : off = fun _ => 0)
    (inb : ∀ a, off a + s.size a ≤ s.size a) (f : b.view.ty.Contents (Elt F)) :
    b.view.readAt (Elt F) (Rect.unit off s.size inb).toLoadRect f = b.view.read (Elt F) f := by
  subst h
  funext x
  show b.view.read (Elt F) f ((Rect.whole s).emb x) = _
  rw [Rect.emb_whole_apply]

omit [FloatOps F] in
/-- A store over a whole buffer replaces all of it. -/
theorem write_all {s : Shape} {e : EltTy} (b : Memref sig .tc .vmem s e) {off : Fin s.rank → ℕ} (h : off = fun _ => 0)
    (inb : ∀ a, off a + s.size a ≤ s.size a) (f : b.view.ty.Contents (Elt F)) (w : s.Idx → Elt F e) :
    (b.access (Rect.unit off s.size inb)).write (Elt F) f w Finset.univ = b.view.write (Elt F) f w Finset.univ := by
  subst h
  funext i
  have hs : (b.access (Rect.whole s)).setOn Finset.univ = b.view.set := by
    show (b.view.slice (Rect.whole s)).set = _
    rw [View.set_slice, Rect.set_whole]; rfl
  by_cases hi : i ∈ b.view.set
  · obtain ⟨x, -, rfl⟩ := Finset.mem_map.mp hi
    have h := View.write_emb_of_mem (v := b.access (Rect.whole s)) (Val := Elt F) f w (M := Finset.univ) (x := x) (Finset.mem_univ _)
    have he : (b.access (Rect.whole s)).emb x = b.view.emb x := congrArg b.view.emb (Rect.emb_whole_apply s x)
    rw [he] at h
    exact h.trans (View.write_emb_of_mem (v := b.view) (Val := Elt F) f w (Finset.mem_univ x)).symm
  · exact (View.write_of_not_mem (v := b.access (Rect.whole s)) (Val := Elt F) f w (M := Finset.univ) (by rw [hs]; exact hi)).trans
      (View.write_of_not_mem (v := b.view) (Val := Elt F) f w (M := Finset.univ) hi).symm

/-- A load from a buffer held at contents `f`. -/
theorem wp_get (c : Dev nD) {s : Shape} {e : EltTy} {b : Memref sig .tc .vmem s e} {r : LoadRect s} {h : b.view.LoadsAt r}
    {f : Buf (Elt F) (b.view.loc (c : Thread nD τ))}
    {α : Type} {Q : α → sProp 𝕄} {k : (r.shape.Idx → Elt F e) → Prog (TpuEff nD τ sig (Elt F) Λ₀ .tc) α} :
    at_ (F := F) b c f
      ⊢ iprop((at_ (F := F) b c f -∗ wp frame (wpE (defs₀ (F := F)) 𝒱₀ (c : Thread nD τ) none) Set.univ (k (b.view.readAt (Elt F) r f)) Q)
          -∗ wp frame (wpE (defs₀ (F := F)) 𝒱₀ (c : Thread nD τ) none) Set.univ (.op (.load b r h) k) Q) := by
  unfold at_
  exact wp_load 𝒱₀ (c : Thread nD τ) none Set.univ (View.setOn_subset_set _ _)

/-- A store into a buffer held at contents `f`. -/
theorem wp_put (c : Dev nD) {s : Shape} {e : EltTy} {b : Memref sig .tc .vmem s e} {r : Rect s} {w : r.shape.Idx → Elt F e}
    {h : (b.access r).Stores Finset.univ} {h' : (Finset.univ : Finset r.shape.Idx) = Finset.univ ∨ ∀ a, r.stride a = 1}
    {f : Buf (Elt F) (b.view.loc (c : Thread nD τ))}
    {α : Type} {Q : α → sProp 𝕄} {k : PUnit → Prog (TpuEff nD τ sig (Elt F) Λ₀ .tc) α} :
    at_ (F := F) b c f
      ⊢ iprop((at_ (F := F) b c ((b.access r).write (Elt F) f w Finset.univ)
              -∗ wp frame (wpE (defs₀ (F := F)) 𝒱₀ (c : Thread nD τ) none) Set.univ (k ⟨⟩) Q)
          -∗ wp frame (wpE (defs₀ (F := F)) 𝒱₀ (c : Thread nD τ) none) Set.univ (.op (.store b r w Finset.univ h h') k) Q) := by
  unfold at_
  exact wp_store 𝒱₀ (c : Thread nD τ) none Set.univ (m := b) (r := r) (Mk := Finset.univ) (View.set_slice_subset _ _)

/-- The rows of a send buffer below its upper half, at some contents. -/
def low (b : Memref sig .tc .vmem S768x768 .bf16) (c : Dev nD) : sProp 𝕄 :=
  iprop(∃ f, b.view.loc (c : Thread nD τ) ↦[b.view.set \ (top b).view.set]{fullShare} f)

omit [FloatOps F] in
/-- A send buffer is its upper half and the rest. -/
theorem top_split (b : Memref sig .tc .vmem S768x768 .bf16) (c : Dev nD) (f) :
    at_ (F := F) b c f ⊢ iprop(at_ (F := F) (top b) c f ∗ low (F := F) b c) := by
  unfold at_ low
  refine (pointsTo_split_subset (View.set_slice_subset b.view topRect)).1.trans (sep_mono_right ?_)
  iintro H; iexists f; iexact H

omit [FloatOps F] in
theorem top_join (b : Memref sig .tc .vmem S768x768 .bf16) (c : Dev nD) :
    iprop(any (F := F) (top b) c ∗ low (F := F) b c) ⊢ any (F := F) b c := by
  unfold any at_ low
  iintro ⟨⟨%f, H⟩, %g, H'⟩
  iexists _
  iapply (pointsTo_join_subset (View.set_slice_subset b.view topRect))
  isplitl [H]; · iexact H
  iexact H'

omit [FloatOps F] in
/-- The upper half read back after a store over it. -/
theorem read_top (b : Memref sig .tc .vmem S768x768 .bf16) (f : b.view.ty.Contents (Elt F)) (w : S384x768.Idx → Elt F .bf16) :
    (top b).view.read (Elt F) ((b.access topRect).write (Elt F) f w Finset.univ) = w := View.read_write_univ _ _

/-- The upper half of a send buffer, `w` having been stored over it. -/
def loaded (b : Memref sig .tc .vmem S768x768 .bf16) (c : Dev nD) (w : S384x768.Idx → Elt F .bf16) : sProp 𝕄 :=
  iprop(∃ f, at_ (F := F) (top b) c ((b.access topRect).write (Elt F) f w Finset.univ))

omit [FloatOps F] in
/-- A buffer at given contents is a buffer at some contents. -/
theorem any_of {s : Shape} {e : EltTy} (b : Memref sig .tc .vmem s e) (c : Dev nD) (f) : at_ (F := F) b c f ⊢ any (F := F) b c := by
  unfold any; iintro H; iexists f; iexact H

/-! ## The partners as the kernel computes them -/

theorem dev1_eq (c : Dev nD) : (⟨k0_dev1 c, k0_dev1_lt c⟩ : Dev nD) = pA c := by revert c; decide +kernel
theorem dev2_eq (c : Dev nD) : (⟨k0_dev2 c, k0_dev2_lt c⟩ : Dev nD) = pB c := by revert c; decide +kernel
theorem dev3_eq (c : Dev nD) : (⟨k0_dev3 c, k0_dev3_lt c⟩ : Dev nD) = mate 0 c := by revert c; decide +kernel
theorem dev4_eq (c : Dev nD) : (⟨k0_dev4 c, k0_dev4_lt c⟩ : Dev nD) = mate 1 c := by revert c; decide +kernel
theorem dev5_eq (c : Dev nD) : (⟨k0_dev5 c, k0_dev5_lt c⟩ : Dev nD) = mate 2 c := by revert c; decide +kernel
theorem dev6_eq (c : Dev nD) : (⟨k0_dev6 c, k0_dev6_lt c⟩ : Dev nD) = mate 3 c := by revert c; decide +kernel
theorem dev7_eq (c : Dev nD) : (⟨k0_dev7 c, k0_dev7_lt c⟩ : Dev nD) = mate 4 c := by revert c; decide +kernel
theorem dev8_eq (c : Dev nD) : (⟨k0_dev8 c, k0_dev8_lt c⟩ : Dev nD) = mate 5 c := by revert c; decide +kernel
theorem dev9_eq (c : Dev nD) : (⟨k0_dev9 c, k0_dev9_lt c⟩ : Dev nD) = mate 6 c := by revert c; decide +kernel
theorem dev10_eq (c : Dev nD) : (⟨k0_dev10 c, k0_dev10_lt c⟩ : Dev nD) = mate 7 c := by revert c; decide +kernel

end Cert.AllReduce

end
-- ==== Proof.Body.lean ====
/-
# The kernel's body on one device

The body is printed in nine parts. Each is run from what it needs to what it leaves.
-/
module

public import proofs.«01_k».proof.Proof.Steps

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S1536x768 .bf16) (B : Dev nD → Vec F S768x1536 .bf16) (K : Dev nD × Slot → ℕ) (c : Dev nD)

/-- Part 1: the barrier with both partners, and the partial product. -/
theorem part1 (Q : _ → sProp 𝕄) :
    known A B K
      ⊢ iprop(ow (F := F) c (O₀ c)
          -∗ (dutyTok ER (barCell (pA c)) 0 false ∗ dutyTok ER (barCell (pB c)) 0 true ∗ landA (F := F) c ∗ landB (F := F) c
            ∗ cred (tallyAt (barCell c) () 2) ∗ atPos ER (barCell c) 0 ∅ 0)
          -∗ at_ (F := F) aM c (A c) -∗ at_ (F := F) bM c (B c) -∗ any (F := F) oM c
          -∗ (∀ v3 v4 v8 v10 v12 v13 v25 v, (ow (F := F) c (owed c 0) ∗ semVal (barCell c) 0 ∗ (landA (F := F) (pA c) ∗ landB (F := F) (pB c))
              ∗ at_ (F := F) aM c (A c) ∗ at_ (F := F) bM c (B c) ∗ at_ (F := F) oM c (out0 A B c)) -∗ Q ⟨c, v3, v4, v8, v10, v12, v13, v25, v⟩)
          -∗ wp frame (wpE (defs₀ (F := F)) 𝒱₀ (c : Thread nD τ) none) Set.univ
              (k0_part1 aM (Memref.isWhole_whole _) bM (Memref.isWhole_whole _) oM (Memref.isWhole_whole _) sA (Memref.isWhole_whole _)
                sB (Memref.isWhole_whole _) r0M (Memref.isWhole_whole _) r1M (Memref.isWhole_whole _) r3M (Memref.isWhole_whole _)
                r2M (Memref.isWhole_whole _) r5M (Memref.isWhole_whole _) r4M (Memref.isWhole_whole _) r6M (Memref.isWhole_whole _)
                r7M (Memref.isWhole_whole _) cc0_scratch10 cc0_scratch11) Q) := by
  rw [k0_part1_eq_skeleton]; unfold k0_part1_skel
  simp only [semSignalWord, semWaitWord, Prog.lift, Prog.bind_op, Prog.bind_ret, Prog.pure_eq_ret, wp_deviceId]
  iintro #HK HO ⟨Ht, Ht', Hl, Hl', Hc, Hat⟩ Ha Hb ⟨%f, Ho⟩ HQ
  iapply (wp_ready A B K c _ (pA c) false (dev1_eq c) (O₀ c) (owed c 0 + tallyAt (barCell (pB c)) () 1) rfl) $$ HK HO Ht [Hl]
  · unfold barPay; rw [pA_pA]; iexact Hl
  iintro HO
  iapply (wp_ready A B K c _ (pB c) true (dev2_eq c) (owed c 0 + tallyAt (barCell (pB c)) () 1) (owed c 0) rfl) $$ HK HO Ht' [Hl']
  · unfold barPay; rw [pB_pB]; iexact Hl'
  iintro HO
  iapply (wp_barrier A B K c) $$ HK HO Hc Hat
  iintro ⟨HO, Hz, Hl, Hl'⟩
  iapply (wp_get c) $$ Ha; iintro Ha
  iapply (wp_get c) $$ Hb; iintro Hb
  iapply (wp_get c) $$ Ho; iintro Ho
  iapply (wp_put c) $$ Ho; iintro Ho
  rw [write_all oM corner, View.write_whole_univ, read_all aM corner, read_all bM corner]
  rw [wp_ret]
  imodintro
  iapply HQ
  isplitl [HO]; · iexact HO
  isplitl [Hz]; · iexact Hz
  isplitl [Hl Hl']
  · isplitl [Hl]; · iexact Hl
    iexact Hl'
  isplitl [Ha]; · iexact Ha
  isplitl [Hb]; · iexact Hb
  iexact Ho

/-- Part 2: messages 0 and 1 are packed and sent, message 0 departs. -/
theorem part2 (v3 v4 v12 v25 v : BitVec 32) (Q : _ → sProp 𝕄) :
    known A B K
      ⊢ iprop(ow (F := F) c (owed c 0) -∗ (fresh (F := F) c 0 ∗ fresh (F := F) c 1)
          -∗ (any (F := F) sA c ∗ any (F := F) sB c ∗ any (F := F) r0M (mate 0 c) ∗ any (F := F) r1M (mate 1 c))
          -∗ at_ (F := F) oM c (out0 A B c)
          -∗ (∀ x y, (ow (F := F) c (owed c 2) ∗ (gone (F := F) c 0 ∗ sent (F := F) c 1) ∗ any (F := F) sA c
              ∗ at_ (F := F) oM c (out0 A B c)) -∗ Q ⟨x, y⟩)
          -∗ wp frame (wpE (defs₀ (F := F)) 𝒱₀ (c : Thread nD τ) none) Set.univ
              (k0_part2 aM (Memref.isWhole_whole _) bM (Memref.isWhole_whole _) oM (Memref.isWhole_whole _) sA (Memref.isWhole_whole _)
                sB (Memref.isWhole_whole _) r0M (Memref.isWhole_whole _) r1M (Memref.isWhole_whole _) r3M (Memref.isWhole_whole _)
                r2M (Memref.isWhole_whole _) r5M (Memref.isWhole_whole _) r4M (Memref.isWhole_whole _) r6M (Memref.isWhole_whole _)
                r7M (Memref.isWhole_whole _) cc0_scratch10 cc0_scratch11 c v3 v4 v12 v25 v) Q) := by
  rw [k0_part2_eq_skeleton]; unfold k0_part2_skel
  simp only [Prog.lift, Prog.bind_op, Prog.bind_ret, Prog.pure_eq_ret]
  iintro #HK HO ⟨Hm0, Hm1⟩ ⟨⟨%fa, Ha⟩, ⟨%fb, Hb⟩, ⟨%f0, H0⟩, ⟨%f1, H1⟩⟩ Ho HQ
  iapply (wp_get c) $$ Ho; iintro Ho
  iapply (wp_get c) $$ Ha; iintro Ha
  iapply (wp_put c) $$ Ha; iintro Ha
  iapply (wp_get c) $$ Ho; iintro Ho
  iapply (wp_get c) $$ Hb; iintro Hb
  iapply (wp_put c) $$ Hb; iintro Hb
  rw [write_all sA corner, View.write_whole_univ, write_all sB corner, View.write_whole_univ]
  iapply (wp_msg A B K c _ 0 0 1 rfl rfl (dev3_eq c) rfl (any_of sA c _)
    (by rw [View.write_whole_univ]; show _ ⊢ at_ r0M (pA c) (msg0 A B (pA (pA c))); rw [pA_pA]; exact .rfl)) $$ HK Ha H0 HO Hm0
  iintro ⟨Hm0, HO⟩
  iapply (wp_msg A B K c _ 1 1 2 rfl rfl (dev4_eq c) (dst := r1M) rfl (any_of sB c _)
    (by rw [View.write_whole_univ]; show _ ⊢ at_ r1M (pB c) (msg1 A B (pB (pB c))); rw [pB_pB]; exact .rfl)) $$ HK Hb H1 HO Hm1
  iintro ⟨Hm1, HO⟩
  iapply (wp_departed A B K c 0 2 (y := sA) rfl (any (F := F) sA c) rfl) $$ HK HO Hm0
  iintro ⟨HO, Hm0, Ha⟩
  rw [wp_ret]
  imodintro
  iapply HQ
  isplitl [HO]; · iexact HO
  isplitl [Hm0 Hm1]
  · isplitl [Hm0]; · iexact Hm0
    iexact Hm1
  isplitl [Ha]; · iexact Ha
  iexact Ho

/-- Part 3: the other transfers of the first round complete, the half kept is summed, and the first quarter is read. -/
theorem part3 (v4 v8 v10 v12 v57 v : BitVec 32) (Q : _ → sProp 𝕄) :
    known A B K
      ⊢ iprop(ow (F := F) c (owed c 2) -∗ (gone (F := F) c 0 ∗ sent (F := F) c 1) -∗ at_ (F := F) oM c (out0 A B c)
          -∗ ((ow (F := F) c (owed c 2) ∗ (shut (F := F) c 0 ∗ shut (F := F) c 1) ∗ any (F := F) sB c
              ∗ (any (F := F) r0M c ∗ any (F := F) r1M c) ∗ at_ (F := F) oM c (out2 A B c))
            -∗ Q (k0_pay6 (getQ (k0_off5 c) (k0_off5_inb c) (out2 A B c))))
          -∗ wp frame (wpE (defs₀ (F := F)) 𝒱₀ (c : Thread nD τ) none) Set.univ
              (k0_part3 aM (Memref.isWhole_whole _) bM (Memref.isWhole_whole _) oM (Memref.isWhole_whole _) sA (Memref.isWhole_whole _)
                sB (Memref.isWhole_whole _) r0M (Memref.isWhole_whole _) r1M (Memref.isWhole_whole _) r3M (Memref.isWhole_whole _)
                r2M (Memref.isWhole_whole _) r5M (Memref.isWhole_whole _) r4M (Memref.isWhole_whole _) r6M (Memref.isWhole_whole _)
                r7M (Memref.isWhole_whole _) cc0_scratch10 cc0_scratch11 c v4 v8 v10 v12 v57 v) Q) := by
  rw [k0_part3_eq_skeleton]; unfold k0_part3_skel
  simp only [Prog.lift, Prog.bind_op, Prog.bind_ret, Prog.pure_eq_ret]
  unfold out2 out1
  iintro #HK HO ⟨Hm0, Hm1⟩ Ho HQ
  iapply (wp_arrived A B K c 0 2 (by decide) (y := r0M) rfl (at_ r0M c (msg0 A B (pA c))) rfl) $$ HK HO Hm0
  iintro ⟨HO, Hm0, H0⟩
  iapply (wp_departed A B K c 1 2 (y := sB) rfl (any (F := F) sB c) rfl) $$ HK HO Hm1
  iintro ⟨HO, Hm1, Hb⟩
  iapply (wp_arrived A B K c 1 2 (by decide) (y := r1M) rfl (at_ r1M c (msg1 A B (pB c))) rfl) $$ HK HO Hm1
  iintro ⟨HO, Hm1, H1⟩
  iapply (wp_get c) $$ Ho; iintro Ho
  iapply (wp_get c) $$ H0; iintro H0
  iapply (wp_get c) $$ Ho; iintro Ho
  iapply (wp_put c) $$ Ho; iintro Ho
  iapply (wp_get c) $$ Ho; iintro Ho
  iapply (wp_get c) $$ H1; iintro H1
  iapply (wp_get c) $$ Ho; iintro Ho
  iapply (wp_put c) $$ Ho; iintro Ho
  iapply (wp_get c) $$ Ho; iintro Ho
  rw [read_all r0M corner, read_all r1M corner, View.read_whole, View.read_whole]
  rw [wp_ret]
  imodintro
  iapply HQ
  isplitl [HO]; · iexact HO
  isplitl [Hm0 Hm1]
  · isplitl [Hm0]; · iexact Hm0
    iexact Hm1
  isplitl [Hb]; · iexact Hb
  isplitl [H0 H1]
  · isplitl [H0]; · iexists _; iexact H0
    iexists _; iexact H1
  iexact Ho

/-- Part 4: messages 2 and 3 are packed and sent. -/
theorem part4 (v3 v4 v12 v13 : BitVec 32) (Q : _ → sProp 𝕄) :
    known A B K
      ⊢ iprop(ow (F := F) c (owed c 2) -∗ (fresh (F := F) c 2 ∗ fresh (F := F) c 3)
          -∗ (any (F := F) sA c ∗ any (F := F) sB c ∗ any (F := F) r2M (mate 2 c) ∗ any (F := F) r3M (mate 3 c))
          -∗ at_ (F := F) oM c (out2 A B c)
          -∗ ((ow (F := F) c (owed c 4) ∗ (sent (F := F) c 2 ∗ sent (F := F) c 3) ∗ (low (F := F) sA c ∗ low (F := F) sB c)
              ∗ at_ (F := F) oM c (out2 A B c)) -∗ Q ⟨⟩)
          -∗ wp frame (wpE (defs₀ (F := F)) 𝒱₀ (c : Thread nD τ) none) Set.univ
              (k0_part4 aM (Memref.isWhole_whole _) bM (Memref.isWhole_whole _) oM (Memref.isWhole_whole _) sA (Memref.isWhole_whole _)
                sB (Memref.isWhole_whole _) r0M (Memref.isWhole_whole _) r1M (Memref.isWhole_whole _) r3M (Memref.isWhole_whole _)
                r2M (Memref.isWhole_whole _) r5M (Memref.isWhole_whole _) r4M (Memref.isWhole_whole _) r6M (Memref.isWhole_whole _)
                r7M (Memref.isWhole_whole _) cc0_scratch10 cc0_scratch11 c v3 v4 v12 v13 (k0_pay6 (getQ (k0_off5 c) (k0_off5_inb c) (out2 A B c)))) Q) := by
  rw [k0_part4_eq_skeleton]; unfold k0_part4_skel
  simp only [Prog.lift, Prog.bind_op, Prog.bind_ret, Prog.pure_eq_ret]
  iintro #HK HO ⟨Hm2, Hm3⟩ ⟨⟨%fa, Ha⟩, ⟨%fb, Hb⟩, ⟨%f2, H2⟩, ⟨%f3, H3⟩⟩ Ho HQ
  iapply (wp_get c) $$ Hb; iintro Hb
  iapply (wp_put c) $$ Hb; iintro Hb
  iapply (wp_get c) $$ Ho; iintro Ho
  iapply (wp_get c) $$ Ha; iintro Ha
  iapply (wp_put c) $$ Ha; iintro Ha
  ihave Hb := (top_split sB c _) $$ Hb
  icases Hb with ⟨Hb, Hlb⟩
  ihave Ha := (top_split sA c _) $$ Ha
  icases Ha with ⟨Ha, Hla⟩
  iapply (wp_msg A B K c _ 2 2 3 rfl rfl (dev5_eq c) (dst := r2M) rfl (any_of (top sB) c _)
    (by rw [View.write_whole_univ, read_top]; show _ ⊢ at_ r2M (pB c) (msg2 A B (pB (pB c))); rw [pB_pB]; exact .rfl)) $$ HK Hb H2 HO Hm2
  iintro ⟨Hm2, HO⟩
  iapply (wp_msg A B K c _ 3 3 4 rfl rfl (dev6_eq c) (dst := r3M) rfl (any_of (top sA) c _)
    (by rw [View.write_whole_univ, read_top]; show _ ⊢ at_ r3M (pA c) (msg3 A B (pA (pA c))); rw [pA_pA]; exact .rfl)) $$ HK Ha H3 HO Hm3
  iintro ⟨Hm3, HO⟩
  rw [wp_ret]
  imodintro
  iapply HQ
  isplitl [HO]; · iexact HO
  isplitl [Hm2 Hm3]
  · isplitl [Hm2]; · iexact Hm2
    iexact Hm3
  isplitl [Hla Hlb]
  · isplitl [Hla]; · iexact Hla
    iexact Hlb
  iexact Ho

/-- Part 5: the second round completes, and the first quarter kept is summed. -/
theorem part5 (v3 v4 v8 v10 v12 v13 : BitVec 32) (Q : _ → sProp 𝕄) :
    known A B K
      ⊢ iprop(ow (F := F) c (owed c 4) -∗ (sent (F := F) c 2 ∗ sent (F := F) c 3) -∗ (low (F := F) sA c ∗ low (F := F) sB c)
          -∗ at_ (F := F) oM c (out2 A B c)
          -∗ (∀ x, (ow (F := F) c (owed c 4) ∗ (shut (F := F) c 2 ∗ shut (F := F) c 3) ∗ (any (F := F) sA c ∗ any (F := F) sB c)
              ∗ (any (F := F) r2M c ∗ at_ (F := F) r3M c (msg3 A B (pA c))) ∗ at_ (F := F) oM c (out3 A B c)) -∗ Q x)
          -∗ wp frame (wpE (defs₀ (F := F)) 𝒱₀ (c : Thread nD τ) none) Set.univ
              (k0_part5 aM (Memref.isWhole_whole _) bM (Memref.isWhole_whole _) oM (Memref.isWhole_whole _) sA (Memref.isWhole_whole _)
                sB (Memref.isWhole_whole _) r0M (Memref.isWhole_whole _) r1M (Memref.isWhole_whole _) r3M (Memref.isWhole_whole _)
                r2M (Memref.isWhole_whole _) r5M (Memref.isWhole_whole _) r4M (Memref.isWhole_whole _) r6M (Memref.isWhole_whole _)
                r7M (Memref.isWhole_whole _) cc0_scratch10 cc0_scratch11 c v3 v4 v8 v10 v12 v13) Q) := by
  rw [k0_part5_eq_skeleton]; unfold k0_part5_skel
  simp only [Prog.lift, Prog.bind_op, Prog.bind_ret, Prog.pure_eq_ret]
  iintro #HK HO ⟨Hm2, Hm3⟩ ⟨Hla, Hlb⟩ Ho HQ
  iapply (wp_departed A B K c 2 4 (y := top sB) rfl (any (F := F) (top sB) c) rfl) $$ HK HO Hm2
  iintro ⟨HO, Hm2, Hb⟩
  iapply (wp_arrived A B K c 2 4 (by decide) (y := r2M) rfl (at_ r2M c (msg2 A B (pB c))) rfl) $$ HK HO Hm2
  iintro ⟨HO, Hm2, H2⟩
  iapply (wp_departed A B K c 3 4 (y := top sA) rfl (any (F := F) (top sA) c) rfl) $$ HK HO Hm3
  iintro ⟨HO, Hm3, Ha⟩
  iapply (wp_arrived A B K c 3 4 (by decide) (y := r3M) rfl (at_ r3M c (msg3 A B (pA c))) rfl) $$ HK HO Hm3
  iintro ⟨HO, Hm3, H3⟩
  ihave Ha := (top_join sA c) $$ [Ha Hla]
  · isplitl [Ha]; · iexact Ha
    iexact Hla
  ihave Hb := (top_join sB c) $$ [Hb Hlb]
  · isplitl [Hb]; · iexact Hb
    iexact Hlb
  iapply (wp_get c) $$ Ho; iintro Ho
  iapply (wp_get c) $$ H2; iintro H2
  iapply (wp_get c) $$ Ho; iintro Ho
  iapply (wp_put c) $$ Ho; iintro Ho
  rw [read_all r2M corner]
  rw [wp_ret]
  imodintro
  iapply HQ
  isplitl [HO]; · iexact HO
  isplitl [Hm2 Hm3]
  · isplitl [Hm2]; · iexact Hm2
    iexact Hm3
  isplitl [Ha Hb]
  · isplitl [Ha]; · iexact Ha
    iexact Hb
  isplitl [H2 H3]
  · isplitl [H2]; · iexists _; iexact H2
    iexact H3
  iexact Ho

/-- Part 6: the second quarter kept is summed, messages 4 and 5 are packed and message 4 is sent. -/
theorem part6 (v4 v8 v10 v12 v13 v150 : BitVec 32) (Q : _ → sProp 𝕄) :
    known A B K
      ⊢ iprop(ow (F := F) c (owed c 4) -∗ fresh (F := F) c 4
          -∗ (any (F := F) sA c ∗ any (F := F) sB c ∗ any (F := F) r4M (mate 4 c) ∗ at_ (F := F) r3M c (msg3 A B (pA c)))
          -∗ at_ (F := F) oM c (out3 A B c)
          -∗ (∀ x, (ow (F := F) c (owed c 5) ∗ sent (F := F) c 4 ∗ (loaded (F := F) sA c (msg5 A B c) ∗ low (F := F) sA c ∗ low (F := F) sB c)
              ∗ any (F := F) r3M c ∗ at_ (F := F) oM c (out4 A B c)) -∗ Q x)
          -∗ wp frame (wpE (defs₀ (F := F)) 𝒱₀ (c : Thread nD τ) none) Set.univ
              (k0_part6 aM (Memref.isWhole_whole _) bM (Memref.isWhole_whole _) oM (Memref.isWhole_whole _) sA (Memref.isWhole_whole _)
                sB (Memref.isWhole_whole _) r0M (Memref.isWhole_whole _) r1M (Memref.isWhole_whole _) r3M (Memref.isWhole_whole _)
                r2M (Memref.isWhole_whole _) r5M (Memref.isWhole_whole _) r4M (Memref.isWhole_whole _) r6M (Memref.isWhole_whole _)
                r7M (Memref.isWhole_whole _) cc0_scratch10 cc0_scratch11 c v4 v8 v10 v12 v13 v150) Q) := by
  rw [k0_part6_eq_skeleton]; unfold k0_part6_skel
  simp only [Prog.lift, Prog.bind_op, Prog.bind_ret, Prog.pure_eq_ret]
  iintro #HK HO Hm4 ⟨⟨%fa, Ha⟩, ⟨%fb, Hb⟩, ⟨%f4, H4⟩, H3⟩ Ho HQ
  iapply (wp_get c) $$ Ho; iintro Ho
  iapply (wp_get c) $$ H3; iintro H3
  iapply (wp_get c) $$ Ho; iintro Ho
  iapply (wp_put c) $$ Ho; iintro Ho
  iapply (wp_get c) $$ Ho; iintro Ho
  iapply (wp_get c) $$ Hb; iintro Hb
  iapply (wp_put c) $$ Hb; iintro Hb
  iapply (wp_get c) $$ Ho; iintro Ho
  iapply (wp_get c) $$ Ha; iintro Ha
  iapply (wp_put c) $$ Ha; iintro Ha
  rw [read_all r3M corner]
  ihave Hb := (top_split sB c _) $$ Hb
  icases Hb with ⟨Hb, Hlb⟩
  ihave Ha := (top_split sA c _) $$ Ha
  icases Ha with ⟨Ha, Hla⟩
  iapply (wp_msg A B K c _ 4 4 5 rfl rfl (dev7_eq c) (dst := r4M) rfl (any_of (top sB) c _)
    (by rw [View.write_whole_univ, read_top]; show _ ⊢ at_ r4M (pB c) (msg4 A B (pB (pB c))); rw [pB_pB]; exact .rfl)) $$ HK Hb H4 HO Hm4
  iintro ⟨Hm4, HO⟩
  rw [wp_ret]
  imodintro
  iapply HQ
  isplitl [HO]; · iexact HO
  isplitl [Hm4]; · iexact Hm4
  isplitl [Ha Hla Hlb]
  · isplitl [Ha]; · unfold loaded; iexists _; iexact Ha
    isplitl [Hla]; · iexact Hla
    iexact Hlb
  isplitl [H3]; · iexists _; iexact H3
  iexact Ho

/-- Part 7: message 5 is sent, the third round completes, and the partner's quarter is read. -/
theorem part7 (v3 v4 v8 v : BitVec 32) (Q : _ → sProp 𝕄) :
    known A B K
      ⊢ iprop(ow (F := F) c (owed c 5) -∗ (sent (F := F) c 4 ∗ fresh (F := F) c 5)
          -∗ (loaded (F := F) sA c (msg5 A B c) ∗ low (F := F) sA c ∗ low (F := F) sB c) -∗ any (F := F) r5M (mate 5 c)
          -∗ (∀ x y, (ow (F := F) c (owed c 6) ∗ (shut (F := F) c 4 ∗ shut (F := F) c 5) ∗ (any (F := F) sA c ∗ any (F := F) sB c)
              ∗ any (F := F) r4M c ∗ at_ (F := F) r5M c (msg5 A B (pA c))) -∗ Q ⟨k0_pay13 (msg4 A B (pB c)), x, y⟩)
          -∗ wp frame (wpE (defs₀ (F := F)) 𝒱₀ (c : Thread nD τ) none) Set.univ
              (k0_part7 aM (Memref.isWhole_whole _) bM (Memref.isWhole_whole _) oM (Memref.isWhole_whole _) sA (Memref.isWhole_whole _)
                sB (Memref.isWhole_whole _) r0M (Memref.isWhole_whole _) r1M (Memref.isWhole_whole _) r3M (Memref.isWhole_whole _)
                r2M (Memref.isWhole_whole _) r5M (Memref.isWhole_whole _) r4M (Memref.isWhole_whole _) r6M (Memref.isWhole_whole _)
                r7M (Memref.isWhole_whole _) cc0_scratch10 cc0_scratch11 c v3 v4 v8 v) Q) := by
  rw [k0_part7_eq_skeleton]; unfold k0_part7_skel
  simp only [Prog.lift, Prog.bind_op, Prog.bind_ret, Prog.pure_eq_ret]
  unfold loaded
  iintro #HK HO ⟨Hm4, Hm5⟩ ⟨⟨%fa, Ha⟩, Hla, Hlb⟩ ⟨%f5, H5⟩ HQ
  iapply (wp_msg A B K c _ 5 5 6 rfl rfl (dev8_eq c) (dst := r5M) rfl (any_of (top sA) c _)
    (by rw [View.write_whole_univ, read_top]; show _ ⊢ at_ r5M (pA c) (msg5 A B (pA (pA c))); rw [pA_pA]; exact .rfl)) $$ HK Ha H5 HO Hm5
  iintro ⟨Hm5, HO⟩
  iapply (wp_departed A B K c 4 6 (y := top sB) rfl (any (F := F) (top sB) c) rfl) $$ HK HO Hm4
  iintro ⟨HO, Hm4, Hb⟩
  iapply (wp_arrived A B K c 4 6 (by decide) (y := r4M) rfl (at_ r4M c (msg4 A B (pB c))) rfl) $$ HK HO Hm4
  iintro ⟨HO, Hm4, H4⟩
  iapply (wp_departed A B K c 5 6 (y := top sA) rfl (any (F := F) (top sA) c) rfl) $$ HK HO Hm5
  iintro ⟨HO, Hm5, Ha⟩
  iapply (wp_arrived A B K c 5 6 (by decide) (y := r5M) rfl (at_ r5M c (msg5 A B (pA c))) rfl) $$ HK HO Hm5
  iintro ⟨HO, Hm5, H5⟩
  ihave Ha := (top_join sA c) $$ [Ha Hla]
  · isplitl [Ha]; · iexact Ha
    iexact Hla
  ihave Hb := (top_join sB c) $$ [Hb Hlb]
  · isplitl [Hb]; · iexact Hb
    iexact Hlb
  iapply (wp_get c) $$ H4; iintro H4
  rw [read_all r4M corner, View.read_whole]
  rw [wp_ret]
  imodintro
  iapply HQ
  isplitl [HO]; · iexact HO
  isplitl [Hm4 Hm5]
  · isplitl [Hm4]; · iexact Hm4
    iexact Hm5
  isplitl [Ha Hb]
  · isplitl [Ha]; · iexact Ha
    iexact Hb
  isplitl [H4]; · iexists _; iexact H4
  iexact H5

/-- Part 8: the partners' quarters are put in place, messages 6 and 7 are packed and message 6 is sent. -/
theorem part8 (v3 v8 v10 v12 v13 v211 v : BitVec 32) (Q : _ → sProp 𝕄) :
    known A B K
      ⊢ iprop(ow (F := F) c (owed c 6) -∗ fresh (F := F) c 6
          -∗ (any (F := F) sA c ∗ any (F := F) sB c ∗ any (F := F) r6M (mate 6 c) ∗ at_ (F := F) r5M c (msg5 A B (pA c)))
          -∗ at_ (F := F) oM c (out4 A B c)
          -∗ ((ow (F := F) c (owed c 7) ∗ sent (F := F) c 6 ∗ at_ (F := F) sB c (msg7 A B c)
              ∗ any (F := F) r5M c ∗ at_ (F := F) oM c (out6 A B c)) -∗ Q ⟨⟩)
          -∗ wp frame (wpE (defs₀ (F := F)) 𝒱₀ (c : Thread nD τ) none) Set.univ
              (k0_part8 aM (Memref.isWhole_whole _) bM (Memref.isWhole_whole _) oM (Memref.isWhole_whole _) sA (Memref.isWhole_whole _)
                sB (Memref.isWhole_whole _) r0M (Memref.isWhole_whole _) r1M (Memref.isWhole_whole _) r3M (Memref.isWhole_whole _)
                r2M (Memref.isWhole_whole _) r5M (Memref.isWhole_whole _) r4M (Memref.isWhole_whole _) r6M (Memref.isWhole_whole _)
                r7M (Memref.isWhole_whole _) cc0_scratch10 cc0_scratch11 c v3 v8 v10 v12 v13 (k0_pay13 (msg4 A B (pB c))) v211 v) Q) := by
  rw [k0_part8_eq_skeleton]; unfold k0_part8_skel
  simp only [Prog.lift, Prog.bind_op, Prog.bind_ret, Prog.pure_eq_ret]
  iintro #HK HO Hm6 ⟨⟨%fa, Ha⟩, ⟨%fb, Hb⟩, ⟨%f6, H6⟩, H5⟩ Ho HQ
  iapply (wp_get c) $$ Ho; iintro Ho
  iapply (wp_put c) $$ Ho; iintro Ho
  iapply (wp_get c) $$ H5; iintro H5
  iapply (wp_get c) $$ Ho; iintro Ho
  iapply (wp_put c) $$ Ho; iintro Ho
  iapply (wp_get c) $$ Ho; iintro Ho
  iapply (wp_get c) $$ Ha; iintro Ha
  iapply (wp_put c) $$ Ha; iintro Ha
  iapply (wp_get c) $$ Ho; iintro Ho
  iapply (wp_get c) $$ Hb; iintro Hb
  iapply (wp_put c) $$ Hb; iintro Hb
  rw [read_all r5M corner, write_all sA corner, View.write_whole_univ, write_all sB corner, View.write_whole_univ]
  iapply (wp_msg A B K c _ 6 6 7 rfl rfl (dev9_eq c) (dst := r6M) rfl (any_of sA c _)
    (by rw [View.write_whole_univ]; show _ ⊢ at_ r6M (pA c) (msg6 A B (pA (pA c))); rw [pA_pA]; exact .rfl)) $$ HK Ha H6 HO Hm6
  iintro ⟨Hm6, HO⟩
  rw [wp_ret]
  imodintro
  iapply HQ
  isplitl [HO]; · iexact HO
  isplitl [Hm6]; · iexact Hm6
  isplitl [Hb]; · iexact Hb
  isplitl [H5]; · iexists _; iexact H5
  iexact Ho

/-- Part 9: message 7 is sent, the last round completes, and the partners' halves are fetched. -/
theorem part9 (v3 v4 v8 v12 : BitVec 32) (Q : _ → sProp 𝕄) :
    known A B K
      ⊢ iprop(ow (F := F) c (owed c 7) -∗ (sent (F := F) c 6 ∗ fresh (F := F) c 7)
          -∗ (at_ (F := F) sB c (msg7 A B c) ∗ any (F := F) r7M (mate 7 c)) -∗ at_ (F := F) oM c (out6 A B c)
          -∗ (∀ x y, (ow (F := F) c (owed c 8) ∗ (shut (F := F) c 6 ∗ shut (F := F) c 7) ∗ (any (F := F) sA c ∗ any (F := F) sB c)
              ∗ (any (F := F) r6M c ∗ any (F := F) r7M c) ∗ at_ (F := F) oM c (out7 A B c)) -∗ Q ⟨k0_pay18 (msg7 A B (pB c)), x, y⟩)
          -∗ wp frame (wpE (defs₀ (F := F)) 𝒱₀ (c : Thread nD τ) none) Set.univ
              (k0_part9 aM (Memref.isWhole_whole _) bM (Memref.isWhole_whole _) oM (Memref.isWhole_whole _) sA (Memref.isWhole_whole _)
                sB (Memref.isWhole_whole _) r0M (Memref.isWhole_whole _) r1M (Memref.isWhole_whole _) r3M (Memref.isWhole_whole _)
                r2M (Memref.isWhole_whole _) r5M (Memref.isWhole_whole _) r4M (Memref.isWhole_whole _) r6M (Memref.isWhole_whole _)
                r7M (Memref.isWhole_whole _) cc0_scratch10 cc0_scratch11 c v3 v4 v8 v12) Q) := by
  rw [k0_part9_eq_skeleton]; unfold k0_part9_skel
  simp only [Prog.lift, Prog.bind_op, Prog.bind_ret, Prog.pure_eq_ret]
  iintro #HK HO ⟨Hm6, Hm7⟩ ⟨Hb, ⟨%f7, H7⟩⟩ Ho HQ
  iapply (wp_msg A B K c _ 7 7 8 rfl rfl (dev10_eq c) (dst := r7M) rfl (any_of sB c _)
    (by rw [View.write_whole_univ]; show _ ⊢ at_ r7M (pB c) (msg7 A B (pB (pB c))); rw [pB_pB]; exact .rfl)) $$ HK Hb H7 HO Hm7
  iintro ⟨Hm7, HO⟩
  iapply (wp_departed A B K c 6 8 (y := sA) rfl (any (F := F) sA c) rfl) $$ HK HO Hm6
  iintro ⟨HO, Hm6, Ha⟩
  iapply (wp_arrived A B K c 6 8 (by decide) (y := r6M) rfl (at_ r6M c (msg6 A B (pA c))) rfl) $$ HK HO Hm6
  iintro ⟨HO, Hm6, H6⟩
  iapply (wp_departed A B K c 7 8 (y := sB) rfl (any (F := F) sB c) rfl) $$ HK HO Hm7
  iintro ⟨HO, Hm7, Hb⟩
  iapply (wp_arrived A B K c 7 8 (by decide) (y := r7M) rfl (at_ r7M c (msg7 A B (pB c))) rfl) $$ HK HO Hm7
  iintro ⟨HO, Hm7, H7⟩
  iapply (wp_get c) $$ H6; iintro H6
  iapply (wp_get c) $$ Ho; iintro Ho
  iapply (wp_put c) $$ Ho; iintro Ho
  iapply (wp_get c) $$ H7; iintro H7
  rw [read_all r6M corner, read_all r7M corner, View.read_whole, View.read_whole]
  rw [wp_ret]
  imodintro
  iapply HQ
  isplitl [HO]; · iexact HO
  isplitl [Hm6 Hm7]
  · isplitl [Hm6]; · iexact Hm6
    iexact Hm7
  isplitl [Ha Hb]
  · isplitl [Ha]; · iexact Ha
    iexact Hb
  isplitl [H6 H7]
  · isplitl [H6]; · iexists _; iexact H6
    iexists _; iexact H7
  iexact Ho

/-! ## The whole body -/

/-- What a device brings to the barrier: the tokens of its two signals, its credit and its stand there. -/
def gate (c : Dev nD) : sProp 𝕄 :=
  iprop(dutyTok ER (barCell (pA c)) 0 false ∗ dutyTok ER (barCell (pB c)) 0 true ∗ cred (tallyAt (barCell c) () 2) ∗ atPos ER (barCell c) 0 ∅ 0)

/-- The send and landing buffers of a device. -/
def scratch (c : Dev nD) : sProp 𝕄 :=
  iprop(any (F := F) sA c ∗ any (F := F) sB c ∗ any (F := F) r0M c ∗ any (F := F) r1M c ∗ any (F := F) r3M c ∗ any (F := F) r2M c
    ∗ any (F := F) r5M c ∗ any (F := F) r4M c ∗ any (F := F) r6M c ∗ any (F := F) r7M c)

omit [FloatOps F] in
/-- A product over the eight messages, written out. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  simp only [bigSepL_cons_cons, bigSepL_singleton]
  rfl

/-- The body on device `c`: every message is delivered, every cell closed, and the result buffer holds `out8`. -/
theorem sound_body (Q : PUnit → sProp 𝕄) :
    known A B K
      ⊢ iprop(ow (F := F) c (O₀ c) -∗ gate (F := F) c -∗ bigSep Finset.univ (fresh (F := F) c) -∗ scratch (F := F) c
          -∗ at_ (F := F) aM c (A c) -∗ at_ (F := F) bM c (B c) -∗ any (F := F) oM c
          -∗ ((ow (F := F) c 0 ∗ (semVal (barCell c) 0 ∗ bigSep Finset.univ (shut (F := F) c)) ∗ scratch (F := F) c
              ∗ at_ (F := F) aM c (A c) ∗ at_ (F := F) bM c (B c) ∗ at_ (F := F) oM c (out8 A B c)) -∗ Q ⟨⟩)
          -∗ wp frame (wpE (defs₀ (F := F)) 𝒱₀ (c : Thread nD τ) none) Set.univ
              (cc0_body aM (Memref.isWhole_whole _) bM (Memref.isWhole_whole _) oM (Memref.isWhole_whole _) sA (Memref.isWhole_whole _)
                sB (Memref.isWhole_whole _) r0M (Memref.isWhole_whole _) r1M (Memref.isWhole_whole _) r3M (Memref.isWhole_whole _)
                r2M (Memref.isWhole_whole _) r5M (Memref.isWhole_whole _) r4M (Memref.isWhole_whole _) r6M (Memref.isWhole_whole _)
                r7M (Memref.isWhole_whole _) cc0_scratch10 cc0_scratch11) Q) := by
  rw [cc0_body_eq_skeleton]; unfold cc0_body_skel
  simp only [wp_bind]
  rw [eight, eight]
  unfold gate scratch
  iintro #HK HO ⟨Ht, Ht', Hcr, Hat⟩ ⟨Hm0, Hm1, Hm2, Hm3, Hm4, Hm5, Hm6, Hm7⟩ ⟨Ha, Hb, H0, H1, H3, H2, H5, H4, H6, H7⟩ HA HB HR HQ
  iapply (part1 A B K c _) $$ HK HO [Ht Ht' Hcr Hat H0 H1 H2 H3 H4 H5 H6 H7] HA HB HR
  · isplitl [Ht]; · iexact Ht
    isplitl [Ht']; · iexact Ht'
    isplitl [H0 H3 H5 H6]
    · unfold landA
      isplitl [H0]; · iexact H0
      isplitl [H3]; · iexact H3
      isplitl [H5]; · iexact H5
      iexact H6
    isplitl [H1 H2 H4 H7]
    · unfold landB
      isplitl [H1]; · iexact H1
      isplitl [H2]; · iexact H2
      isplitl [H4]; · iexact H4
      iexact H7
    isplitl [Hcr]; · iexact Hcr
    iexact Hat
  iintro %v3 %v4 %v8 %v10 %v12 %v13 %v25 %v ⟨HO, Hz, ⟨Hla, Hlb⟩, HA, HB, HR⟩
  unfold landA landB
  icases Hla with ⟨H0, H3, H5, H6⟩
  icases Hlb with ⟨H1, H2, H4, H7⟩
  iapply (part2 A B K c _ _ _ _ _ _) $$ HK HO [Hm0 Hm1] [Ha Hb H0 H1] HR
  · isplitl [Hm0]; · iexact Hm0
    iexact Hm1
  · isplitl [Ha]; · iexact Ha
    isplitl [Hb]; · iexact Hb
    isplitl [H0]; · iexact H0
    iexact H1
  iintro %x %y ⟨HO, ⟨Hm0, Hm1⟩, Ha, HR⟩
  iapply (part3 A B K c _ _ _ _ _ _ _) $$ HK HO [Hm0 Hm1] HR
  · isplitl [Hm0]; · iexact Hm0
    iexact Hm1
  iintro ⟨HO, ⟨Hm0, Hm1⟩, Hb, ⟨H0, H1⟩, HR⟩
  iapply (part4 A B K c _ _ _ _ _) $$ HK HO [Hm2 Hm3] [Ha Hb H2 H3] HR
  · isplitl [Hm2]; · iexact Hm2
    iexact Hm3
  · isplitl [Ha]; · iexact Ha
    isplitl [Hb]; · iexact Hb
    isplitl [H2]; · iexact H2
    iexact H3
  iintro ⟨HO, ⟨Hm2, Hm3⟩, ⟨Hla, Hlb⟩, HR⟩
  iapply (part5 A B K c _ _ _ _ _ _ _) $$ HK HO [Hm2 Hm3] [Hla Hlb] HR
  · isplitl [Hm2]; · iexact Hm2
    iexact Hm3
  · isplitl [Hla]; · iexact Hla
    iexact Hlb
  iintro %w ⟨HO, ⟨Hm2, Hm3⟩, ⟨Ha, Hb⟩, ⟨H2, H3⟩, HR⟩
  iapply (part6 A B K c _ _ _ _ _ _ _) $$ HK HO Hm4 [Ha Hb H4 H3] HR
  · isplitl [Ha]; · iexact Ha
    isplitl [Hb]; · iexact Hb
    isplitl [H4]; · iexact H4
    iexact H3
  iintro %u ⟨HO, Hm4, ⟨Ha, Hla, Hlb⟩, H3, HR⟩
  iapply (part7 A B K c _ _ _ _ _) $$ HK HO [Hm4 Hm5] [Ha Hla Hlb] [H5]
  · isplitl [Hm4]; · iexact Hm4
    iexact Hm5
  · isplitl [Ha]; · iexact Ha
    isplitl [Hla]; · iexact Hla
    iexact Hlb
  · iexact H5
  iintro %x' %y' ⟨HO, ⟨Hm4, Hm5⟩, ⟨Ha, Hb⟩, H4, H5⟩
  iapply (part8 A B K c _ _ _ _ _ _ _ _) $$ HK HO Hm6 [Ha Hb H6 H5] HR
  · isplitl [Ha]; · iexact Ha
    isplitl [Hb]; · iexact Hb
    isplitl [H6]; · iexact H6
    iexact H5
  iintro ⟨HO, Hm6, Hb, H5, HR⟩
  iapply (part9 A B K c _ _ _ _ _) $$ HK HO [Hm6 Hm7] [Hb H7] HR
  · isplitl [Hm6]; · iexact Hm6
    iexact Hm7
  · isplitl [Hb]; · iexact Hb
    iexact H7
  iintro %x'' %y'' ⟨HO, ⟨Hm6, Hm7⟩, ⟨Ha, Hb⟩, ⟨H6, H7⟩, HR⟩
  simp only [Prog.lift, Prog.bind_op, Prog.bind_ret, Prog.pure_eq_ret]
  iapply (wp_get c) $$ HR; iintro HR
  rw [wp_ret]; imodintro
  iapply (wp_put c) $$ HR; iintro HR
  rw [wp_ret]; imodintro
  rw [wp_ret, owed_end]; imodintro
  iapply HQ
  isplitl [HO]; · iexact HO
  isplitl [Hz Hm0 Hm1 Hm2 Hm3 Hm4 Hm5 Hm6 Hm7]
  · isplitl [Hz]; · iexact Hz
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    iexact Hm7
  isplitl [Ha Hb H0 H1 H2 H3 H4 H5 H6 H7]
  · isplitl [Ha]; · iexact Ha
    isplitl [Hb]; · iexact Hb
    isplitl [H0]; · iexact H0
    isplitl [H1]; · iexact H1
    isplitl [H3]; · iexact H3
    isplitl [H2]; · iexact H2
    isplitl [H5]; · iexact H5
    isplitl [H4]; · iexact H4
    isplitl [H6]; · iexact H6
    iexact H7
  isplitl [HA]; · iexact HA
  isplitl [HB]; · iexact HB
  iexact HR

end Cert.AllReduce

end
-- ==== Proof.Launch.lean ====
/-
# The launch on the four devices

The cells' tokens are minted, every token is dealt to the device that pays with it, the cells' invariants are made, and the bodies'
runs are put together into a run of the whole program, for any float values.
-/
module

public import proofs.«01_k».proof.Proof.Body
public import proofs.«01_k».proof.Proof.Gen.KernelIdeal.Points
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Dealing the tokens -/

omit [FloatOps F] in
/-- A family over a device's cells: the barrier's, the departures' and the arrivals'. -/
theorem over_slots (Φ : Slot → sProp 𝕄) :
    bigSep Finset.univ Φ = iprop(Φ iBar ∗ bigSep Finset.univ (fun j => Φ (iSend j)) ∗ bigSep Finset.univ (fun j => Φ (iRecv j))) := by
  rw [bigSep_univ_sum, bigSep_univ_sum, bigSep_univ_of_subsingleton ()]; rfl

theorem csem_injective : Function.Injective csem := by decide

theorem kcell_injective : Function.Injective kcell := by
  rintro ⟨c, k⟩ ⟨c', k'⟩ h
  obtain rfl : c = c' := congrArg (fun g : GSem nD τ sig => g.1.1) h
  rw [csem_injective (show csem k = csem k' from congrArg Prod.snd h)]

/-- All the cells. -/
def allCells : Finset (GSem nD τ sig) := Finset.univ.map ⟨kcell, kcell_injective⟩

/-- A device's duties: two at its barrier, one at each of its own semaphores. -/
abbrev Duty : Type := Bool ⊕ Own
/-- The token of a duty. -/
def tokOf (x : Dev nD × Duty) : GSem nD τ sig × ℕ × Bool :=
  (((x.1 : Thread nD τ), Sum.elim (fun _ => .reg barS) osem x.2), 0, Sum.elim id (fun _ => false) x.2)

theorem duty_injective : Function.Injective
    (fun k : Duty => ((Sum.elim (fun _ => .reg barS) osem k, Sum.elim id (fun _ => false) k) : SemLoc sig × Bool)) := by decide

theorem tokOf_injective : Function.Injective tokOf := by
  rintro ⟨c, k⟩ ⟨c', k'⟩ h
  obtain rfl : c = c' := congrArg (fun x : GSem nD τ sig × ℕ × Bool => x.1.1.1) h
  have : k = k' := duty_injective (congrArg (fun x : GSem nD τ sig × ℕ × Bool => (x.1.2, x.2.2)) h)
  rw [this]

/-- All the tokens. -/
def allToks : Finset (GSem nD τ sig × ℕ × Bool) := Finset.univ.map ⟨tokOf, tokOf_injective⟩

/-- The launch's element: the pipeline's own, and the protocol's. -/
def u₀ : UU := (initOf (Pipeline.cells cfgs cellOf_inj) (Pipeline.launchToks cfgs cellOf_inj), initOf allCells allToks)

/-- The tokens of device `c`'s own cells. -/
def toks (c : Dev nD) : sProp 𝕄 :=
  iprop((dutyTok ER (barCell c) 0 false ∗ dutyTok ER (barCell c) 0 true)
    ∗ bigSep Finset.univ (fun j => dutyTok ER (sendCell c j) 0 false) ∗ bigSep Finset.univ (fun j => dutyTok ER (recvCell c j) 0 false))
/-- The tokens device `c` pays with. -/
def pays (c : Dev nD) : sProp 𝕄 :=
  iprop((dutyTok ER (barCell (pA c)) 0 false ∗ dutyTok ER (barCell (pB c)) 0 true)
    ∗ bigSep Finset.univ (fun j => dutyTok ER (sendCell c j) 0 false) ∗ bigSep Finset.univ (fun j => dutyTok ER (recvCell (mate j c) j) 0 false))

/-- Taking the partner, as a bijection of the devices. -/
def swapA : Dev nD ≃ Dev nD := ⟨pA, pA, pA_pA, pA_pA⟩
def swapB : Dev nD ≃ Dev nD := ⟨pB, pB, pB_pB, pB_pB⟩
def swapM (j : Fin 8) : Dev nD ≃ Dev nD := ⟨mate j, mate j, mate_mate j, mate_mate j⟩

omit [FloatOps F] in
theorem deal : (bigSep Finset.univ fun c : Dev nD => (toks c : sProp 𝕄)) ⊢ bigSep Finset.univ fun c : Dev nD => pays c := by
  unfold toks pays
  simp only [bigSep_sep']
  rw [bigSep_univ_equiv swapA (fun c : Dev nD => (dutyTok ER (barCell c) 0 false : sProp 𝕄)),
    bigSep_univ_equiv swapB (fun c : Dev nD => (dutyTok ER (barCell c) 0 true : sProp 𝕄)),
    bigSep_univ_comm (fun (c : Dev nD) j => (dutyTok ER (recvCell c j) 0 false : sProp 𝕄)),
    bigSep_congr (s := Finset.univ) (fun (j : Fin 8) _ => bigSep_univ_equiv (swapM j) (fun c : Dev nD => (dutyTok ER (recvCell c j) 0 false : sProp 𝕄))),
    bigSep_univ_comm (fun (j : Fin 8) (c : Dev nD) => (dutyTok ER (recvCell (swapM j c) j) 0 false : sProp 𝕄))]
  iintro H; iexact H

/-! ## The cells' invariants -/

theorem ownSemFacts : Pipeline.OwnSemFacts cfg0.spec osem := by decide

omit [FloatOps F] in
theorem ownSems_eq (c : Dev nD) : (Pipeline.ownSems0 (Ix := Unit) (Name := ℕ) (U := UU) (Lvl := ℕ) (Val := Elt F) (τ := τ) osem c : sProp 𝕄)
    = iprop(bigSep Finset.univ (fun j => semVal (sendCell c j) 0) ∗ bigSep Finset.univ (fun j => semVal (recvCell c j) 0)) := by
  unfold Pipeline.ownSems0; rw [bigSep_univ_sum]; rfl
omit [FloatOps F] in
theorem unscopedSems_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem allSems (c : Dev nD) :
    iprop(Pipeline.ownSems0 (Ix := Unit) (Name := ℕ) (U := UU) (Lvl := ℕ) (Val := Elt F) (τ := τ) osem c ∗ unscopedSems0 c)
      ⊢ (bigSep Finset.univ fun k : Slot => semVal (kcell (c, k)) 0 : sProp 𝕄) := by
  rw [ownSems_eq, unscopedSems_eq, over_slots]
  iintro ⟨H, HB⟩
  isplitl [HB]; · iexact HB
  iexact H

variable (A : Dev nD → Vec F S1536x768 .bf16) (B : Dev nD → Vec F S768x1536 .bf16)

/-- What the launch's element gives device `c`. -/
def dealt (c : Dev nD) : sProp 𝕄 :=
  iprop((bigSep Finset.univ fun k : Slot => roundState ER (sched A B) (kcell (c, k)) 0)
    ∗ (bigSep Finset.univ fun k : Slot => iprop(atPos ER (kcell (c, k)) 0 ∅ 0 ∗ reached ER (kcell (c, k)) 0)) ∗ toks c)

/-- The device's stand at its cells, and the tokens it pays with. -/
def linear (c : Dev nD) : sProp 𝕄 := iprop((bigSep Finset.univ fun k : Slot => atPos ER (kcell (c, k)) 0 ∅ 0) ∗ pays c)

/-- What the device has once the invariants are made. -/
def ready (c : Dev nD) : sProp 𝕄 := iprop(∃ K, records A B K ∗ linear c)

theorem mint : BI.own (ER (initOf allCells allToks)) ⊢ (|==> bigSep Finset.univ (dealt A B) : sProp 𝕄) := by
  have hX (Φ : GSem nD τ sig → sProp 𝕄) : bigSep allCells Φ = bigSep Finset.univ fun c : Dev nD => bigSep Finset.univ fun k : Slot => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by
      unfold toks
      rw [bigSep_univ_sum, bigSep_univ_sum, bigSep_univ_eq_bigSepL [false, true] (by decide) (by decide), bigSepL_cons_cons, bigSepL_singleton]
      rfl
  iintro HX
  imod (Rounds.fund ER (sched A B) allCells allToks) $$ HX with ⟨Hst, Hr, Hat, Htok⟩
  imodintro
  ihave Hst' := (Entails.of_eq (hX fun g => roundState ER (sched A B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

theorem invariants (c : Dev nD) :
    iprop(Pipeline.ownSems0 (Ix := Unit) (Name := ℕ) (U := UU) (Lvl := ℕ) (Val := Elt F) (τ := τ) osem c ∗ unscopedSems0 c ∗ dealt A B c)
      ⊢ |={Set.univ}=> iprop((bigSep Finset.univ fun k : Slot => iprop(∃ κ : ℕ, cellInv ER (sched A B) κ (kcell (c, k))))
          ∗ (bigSep Finset.univ fun k : Slot => iprop(atPos ER (kcell (c, k)) 0 ∅ 0 ∗ reached ER (kcell (c, k)) 0)) ∗ toks c) := by
  unfold dealt
  iintro ⟨Hos, Hus, Hst, Hat, Htok⟩
  ihave Hv := (allSems (F := F) c) $$ [Hos Hus]
  · isplitl [Hos] <;> iassumption
  imod (show iprop((bigSep Finset.univ fun k : Slot => semVal (kcell (c, k)) 0) ∗ bigSep Finset.univ fun k : Slot => roundState ER (sched A B) (kcell (c, k)) 0)
      ⊢ (|={Set.univ}=> bigSep Finset.univ fun k : Slot => iprop(∃ κ : ℕ, cellInv ER (sched A B) κ (kcell (c, k))) : sProp 𝕄) from by
        rw [← bigSep_sep']
        exact (bigSep_mono fun k _ => (Rounds.body_intro ER (sched A B) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A persistent assertion goes to every member of a family. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Slot => iprop(∃ κ : ℕ, cellInv ER (sched A B) κ (kcell (c, k))))
          ∗ (bigSep Finset.univ fun k : Slot => iprop(atPos ER (kcell (c, k)) 0 ∅ 0 ∗ reached ER (kcell (c, k)) 0)) ∗ toks c) : sProp 𝕄)
      ⊢ bigSep Finset.univ (ready A B) := by
  rw [bigSep_sep', bigSep_sep', ← bigSep_univ_prod (fun ck : Dev nD × Slot => iprop(∃ κ : ℕ, cellInv ER (sched A B) κ (kcell ck))),
    bigSep_congr (s := Finset.univ) (fun (c : Dev nD) _ => bigSep_sep' Finset.univ (fun k : Slot => (atPos ER (kcell (c, k)) 0 ∅ 0 : sProp 𝕄)) (fun k => reached ER (kcell (c, k)) 0)),
    bigSep_sep', ← bigSep_univ_prod (fun ck : Dev nD × Slot => (reached ER (kcell ck) 0 : sProp 𝕄))]
  iintro ⟨HI, ⟨Hat, #HR⟩, Htok⟩
  ihave HK := (BI.bigSep_exists_pi Finset.univ (fun (ck : Dev nD × Slot) (κ : ℕ) => (cellInv ER (sched A B) κ (kcell ck) : sProp 𝕄))) $$ HI
  icases HK with ⟨%K, #HI⟩
  ihave Htk := (deal (F := F)) $$ Htok
  iapply (spread (R := records A B K) (Φ := fun c => linear (F := F) c) fun c _ => by
    unfold ready; iintro ⟨#H1, H2⟩; iexists K; isplitr; · iexact H1
    iexact H2)
  isplitr
  · unfold records; isplitl; · iexact HI
    iexact HR
  · unfold linear; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ dealt A B c) : sProp 𝕄)
    ⊢ |={Set.univ}=> bigSep Finset.univ (ready A B) :=
  ((bigSep_mono fun c _ => invariants A B c).trans (bigSep_fupd _ _)).trans (BI.fupd_mono (regroup A B))

/-! ## The launch's credit -/

omit [FloatOps F] in
/-- The devices owe device `c`'s barrier a unit each from its two partners; -/
theorem owed_bar (d c : Dev nD) : O₀ d (barCell c) () = (if d = pB c then 1 else 0) + (if d = pA c then 1 else 0) := by
  have h0 : owed d 0 (barCell c) () = 0 := by
    by_contra h
    obtain ⟨j, -, hj⟩ := owed_pos (Nat.pos_of_ne_zero h)
    have := congrArg (fun g : GSem nD τ sig => role g.2) hj
    dsimp only at this
    rw [role_bar, role_recv] at this
    exact absurd this (by simp)
  have h1 (q : Dev nD) : barCell c = barCell q ↔ c = q :=
    ⟨fun h => congrArg (fun g : GSem nD τ sig => g.1.1) h, fun h => h ▸ rfl⟩
  unfold O₀
  rw [Pi.add_apply, Finsupp.add_apply, Pi.add_apply, Finsupp.add_apply, h0, zero_add, tallyAt_apply, tallyAt_apply]
  congr 1
  · exact if_congr ⟨fun h => by rw [(h1 _).mp h.1, pB_pB], fun h => ⟨(h1 _).mpr (by rw [h, pB_pB]), rfl⟩⟩ rfl rfl
  · exact if_congr ⟨fun h => by rw [(h1 _).mp h.1, pA_pA], fun h => ⟨(h1 _).mpr (by rw [h, pA_pA]), rfl⟩⟩ rfl rfl

omit [FloatOps F] in
/-- and its arrival cell of message `j` the message's credit, from the partner of that message. -/
theorem owed_recv (d c : Dev nD) (j : Fin 8) : O₀ d (recvCell c j) () = if d = mate j c then size j else 0 := by
  have hb (q : Dev nD) : (tallyAt (barCell q) () 1 : CellTallies nD τ sig Unit) (recvCell c j) () = 0 := by
    rw [tallyAt_apply, if_neg]
    rintro ⟨h, -⟩
    have := congrArg (fun g : GSem nD τ sig => role g.2) h
    dsimp only at this
    rw [role_bar, role_recv] at this
    exact absurd this (by simp)
  have h1 (i : Fin 8) (q : Dev nD) : recvCell c j = recvCell q i ↔ (c = q ∧ j = i) := by
    refine ⟨fun h => ⟨congrArg (fun g : GSem nD τ sig => g.1.1) h, ?_⟩, fun h => by rw [h.1, h.2]⟩
    have := congrArg (fun g : GSem nD τ sig => role g.2) h
    dsimp only at this
    rw [role_recv, role_recv] at this
    exact Role.recv.inj this
  unfold O₀ owed due
  rw [Pi.add_apply, Finsupp.add_apply, Pi.add_apply, Finsupp.add_apply, hb, hb, add_zero, add_zero, Finset.sum_apply, Finsupp.finset_sum_apply]
  rw [Finset.sum_eq_single j]
  · rw [tallyAt_apply]
    exact if_congr ⟨fun h => by rw [((h1 _ _).mp h.1).1, mate_mate], fun h => ⟨(h1 _ _).mpr ⟨by rw [h, mate_mate], rfl⟩, rfl⟩⟩ rfl rfl
  · exact fun i _ hi => by rw [tallyAt_apply]; exact if_neg fun h => hi ((h1 _ _).mp h.1).2.symm
  · exact fun h => absurd (Finset.mem_filter.mpr ⟨Finset.mem_univ j, Nat.zero_le _⟩) h

omit [FloatOps F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pB c) fun _ => 1, Finset.sum_ite_eq' Finset.univ (pA c) fun _ => 1, if_pos (Finset.mem_univ _), if_pos (Finset.mem_univ _)]

omit [FloatOps F] in
theorem launch_recv (c : Dev nD) (j : Fin 8) :
    tallyOn (recvCell c j) (launchCredit (Pipeline.owing O₀) 0 (recvCell c j)) = (tallyAt (recvCell c j) () (size j) : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (mate j c) fun _ => size j,
    if_pos (Finset.mem_univ _)]

omit [FloatOps F] in
/-- Of a family over all semaphores keep the protocol's. -/
theorem over_csem (Φ : SemLoc sig → sProp 𝕄) : bigSep Finset.univ Φ ⊢ bigSep Finset.univ (fun k : Slot => Φ (csem k)) := by
  have h := bigSep_map (s := Finset.univ) ⟨csem, csem_injective⟩ (Φ := Φ)
  rw [show (fun k : Slot => Φ (csem k)) = fun k => Φ ((⟨csem, csem_injective⟩ : Slot ↪ SemLoc sig) k) from rfl, ← h]
  exact bigSep_subset (Finset.subset_univ _)

omit [FloatOps F] in
/-- The device's credit at launch: the barrier's two units and each arrival's. -/
theorem creds (c : Dev nD) :
    (Pipeline.launchCred O₀ c : sProp 𝕄)
      ⊢ iprop(cred (tallyAt (barCell c) () 2) ∗ bigSep Finset.univ fun j => cred (tallyAt (recvCell c j) () (size j))) := by
  unfold Pipeline.launchCred
  refine (over_csem _).trans ?_
  rw [over_slots]
  iintro ⟨H, -, H'⟩
  isplitl [H]
  · rw [← launch_bar]; iexact H
  simp only [← launch_recv]
  iexact H'

/-! ## The body's obligation -/

/-- Everything the device has before its body, its buffers apart. -/
def start (c : Dev nD) : sProp 𝕄 :=
  iprop(ready A B c ∗ (cred (tallyAt (barCell c) () 2) ∗ bigSep Finset.univ fun j => cred (tallyAt (recvCell c j) () (size j))) ∗ levAts L lv)

/-- It is what the body takes. -/
theorem start_body (c : Dev nD) : start A B c ⊢ iprop(∃ K, known A B K ∗ gate c ∗ bigSep Finset.univ (fresh (F := F) c)) := by
  unfold start ready linear pays gate known
  rw [over_slots]
  unfold fresh; simp only [bigSep_sep']
  iintro ⟨⟨%K, HR, ⟨HaB, HaS, HaV⟩, ⟨HtA, HtB⟩, HtS, HtV⟩, ⟨HcB, HcV⟩, HL⟩
  iexists K
  isplitl [HR HL]
  · isplitl [HR] <;> iassumption
  isplitl [HtA HtB HcB HaB]
  · isplitl [HtA]; · iexact HtA
    isplitl [HtB]; · iexact HtB
    isplitl [HcB]; · iexact HcB
    iexact HaB
  isplitl [HtS HtV]
  · isplitl [HtS]; · iexact HtS
    iexact HtV
  isplitl [HaS]; · iexact HaS
  isplitl [HaV]; · iexact HaV
  iexact HcV

section Runs

variable (m : (ℓ : Loc nD τ sig) → Buf (Elt F) ℓ) (ρ : Dev nD → PrngReg)

/-- The start: memory `m`, all counters zero. -/
def s₀ : MemSt nD τ sig (Elt F) := ⟨m, fun _ => 0, ρ⟩

/-- Device `c`'s blocks of the two factors, as its body finds them. -/
def inA (c : Dev nD) : Vec F S1536x768 .bf16 := (win0_0.blk (0 : Fin 1)).view.read (Elt F) ((s₀ m ρ).mem ((c : Thread nD τ).loc main_arg0))
def inB (c : Dev nD) : Vec F S768x1536 .bf16 := (win0_1.blk (0 : Fin 1)).view.read (Elt F) ((s₀ m ρ).mem ((c : Thread nD τ).loc main_arg1))

/-- The result block of device `c`. -/
@[irreducible] def result (c : Dev nD) : Vec F S1536x1536 .f32 := out8 (inA m ρ) (inB m ρ) c

def Φ₀ (c : Dev nD) : sProp 𝕄 := iprop(start (inA m ρ) (inB m ρ) c ∗ scratch c)
def Φ₁ (c : Dev nD) : sProp 𝕄 := iprop(scratch c ∗ semVal (barCell c) 0 ∗ bigSep Finset.univ (shut (F := F) c))

/-- The run of the one grid point: the factors stay, the result's buffer ends at the body's. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inA m ρ c
    | ⟨1, _⟩ => inB m ρ c
    | ⟨2, _⟩ => result m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
/-- A whole buffer's elements are all its elements. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem at_whole {s : Shape} {e : EltTy} (b : Memref sig .tc .vmem s e) (h : b.view.set = Finset.univ) (c : Dev nD)
    (f : Buf (Elt F) (b.view.loc (c : Thread nD τ))) : at_ b c f = (b.view.loc (c : Thread nD τ) ↦{fullShare} f : sProp 𝕄) := by
  unfold at_; rw [h]

omit [FloatOps F] in
/-- The scratch buffers are the launch's scoped rest. -/
theorem scratch_eq (c : Dev nD) :
    (Pipeline.scopedRest (Ix := Unit) (Name := ℕ) (U := UU) (Lvl := ℕ) (Val := Elt F) (τ := τ) cfg0.spec c : sProp 𝕄) = scratch c := by
  rw [scopedRest0_eq]
  unfold scratch any
  simp only [at_whole sA (View.set_whole _), at_whole sB (View.set_whole _), at_whole r0M (View.set_whole _), at_whole r1M (View.set_whole _),
    at_whole r2M (View.set_whole _), at_whole r3M (View.set_whole _), at_whole r4M (View.set_whole _), at_whole r5M (View.set_whole _),
    at_whole r6M (View.set_whole _), at_whole r7M (View.set_whole _)]

/-- A buffer of device `c` holding `X`. -/
abbrev holds (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, and what it leaves. -/
def bodyPre (c : Dev nD) : sProp 𝕄 :=
  iprop(Φ₀ m ρ c ∗ (dats m ρ 0 c).owesAt () t0_0.castSucc
    ∗ (∃ d, holds c cc0_stg0_0 ((dats m ρ 0 c).before (0 : Fin 3) t0_0 d))
    ∗ (∃ d, holds c cc0_stg1_0 ((dats m ρ 0 c).before (1 : Fin 3) t0_0 d))
    ∗ (∃ d, holds c cc0_stg2_0 ((dats m ρ 0 c).before (2 : Fin 3) t0_0 d)))
def bodyPost (c : Dev nD) : sProp 𝕄 :=
  iprop(Φ₁ c ∗ (dats m ρ 0 c).owesAt () t0_0.succ
    ∗ holds c cc0_stg0_0 (inA m ρ c) ∗ holds c cc0_stg1_0 (inB m ρ c) ∗ holds c cc0_stg2_0 (result m ρ c))

theorem body_run (c : Dev nD) : bodyPre m ρ c
    ⊢ wp frame (wpE (defs₀ (F := F)) 𝒱₀ (c : Thread nD τ) none) Set.univ
        (cc0_body aM (Memref.isWhole_whole _) bM (Memref.isWhole_whole _) oM (Memref.isWhole_whole _) sA (Memref.isWhole_whole _)
          sB (Memref.isWhole_whole _) r0M (Memref.isWhole_whole _) r1M (Memref.isWhole_whole _) r3M (Memref.isWhole_whole _)
          r2M (Memref.isWhole_whole _) r5M (Memref.isWhole_whole _) r4M (Memref.isWhole_whole _) r6M (Memref.isWhole_whole _)
          r7M (Memref.isWhole_whole _) cc0_scratch10 cc0_scratch11)
        (fun _ => bodyPost m ρ c) := by
  unfold bodyPre bodyPost Φ₀ Φ₁ Dat.owesAt Pipeline.owesWithin
  rw [show (dats m ρ 0 c).owed t0_0.castSucc = O₀ c from rfl, show (dats m ρ 0 c).owed t0_0.succ = 0 from rfl]
  iintro ⟨⟨Hst, Hscr⟩, ⟨%W, %hW, HO⟩, ⟨%d0, %g0, %hg0, Ha⟩, ⟨%d1, %g1, %hg1, Hb⟩, ⟨%d2, %g2, -, Ho⟩⟩
  have h0 : g0 = inA m ρ c := by rw [hg0]; unfold Dat.before; rw [if_pos (fetch0_0 t0_0)]; rfl
  have h1 : g1 = inB m ρ c := by rw [hg1]; unfold Dat.before; rw [if_pos (fetch0_1 t0_0)]; rfl
  subst h0 h1
  unfold result
  ihave Hst' := (start_body (inA m ρ) (inB m ρ) c) $$ Hst
  icases Hst' with ⟨%K, #HK, Hg, Hf⟩
  iapply (sound_body (inA m ρ) (inB m ρ) K c _) $$ HK [HO] Hg Hf Hscr [Ha] [Hb] [Ho]
  · unfold ow; iexists W; iexact HO
  · rw [at_whole aM (View.set_whole _)]; iexact Ha
  · rw [at_whole bM (View.set_whole _)]; iexact Hb
  · iexists g2; rw [at_whole oM (View.set_whole _)]; iexact Ho
  rw [at_whole aM (View.set_whole _), at_whole bM (View.set_whole _), at_whole oM (View.set_whole _)]
  unfold ow
  iintro ⟨⟨%W', HO⟩, Hz, Hscr, Ha, Hb, Ho⟩
  isplitl [Hscr Hz]
  · isplitl [Hscr]; · iexact Hscr
    iexact Hz
  isplitl [HO]
  · iexists W'
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Ho

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole]
  exact body_run m ρ c

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready (inA m ρ) (inB m ρ) c)
      ⊢ |={Set.univ}=> iprop(start (inA m ρ) (inB m ρ) c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem enter (c : Dev nD) :
    iprop(start (inA m ρ) (inB m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, ownSems_eq, unscopedSems_eq]
  unfold Φ₁ shut
  rw [bigSep_sep']
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What a window's array holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with all counters zero: the four devices' run terminates without a fault, each window's
    array holds the computed contents and every semaphore counter is zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt (inA m ρ) (inB m ρ)) (G' := ready (inA m ρ) (inB m ρ)) (u₀ := u₀)
    (hu₀ := by
      unfold u₀
      iintro Hu
      ihave H := (ownU_pair _ _) $$ Hu
      icases H with ⟨HP, HX⟩
      imod (mint (inA m ρ) (inB m ρ)) $$ HX with HG
      imodintro
      isplitl [HP] <;> iassumption)
    (hglob := glob (inA m ρ) (inB m ρ))
    (hA := fun _ _ => rfl) (hpf := fun _ k => k.elim0)
    (X := start (inA m ρ) (inB m ρ)) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The factors' arrays hold in the end what they held. -/
theorem finalA_in (c : Dev nD) : finalA m ρ c (0 : Fin 3) = m ((c : Thread nD τ).loc main_arg0) ∧ finalA m ρ c (1 : Fin 3) = m ((c : Thread nD τ).loc main_arg1) :=
  ⟨(dats (F := F) m ρ 0 c).arrAt_in (0 : Fin 3) rfl _, (dats (F := F) m ρ 0 c).arrAt_in (1 : Fin 3) rfl _⟩

end Runs

end Cert.AllReduce

end
-- ==== Proof.Value.lean ====
/-
# What the result buffer holds at the end, over the extended reals

Read at the ideal values, where a change of format is the identity and addition is commutative and associative, each
store of the exchange replaces a block of the result buffer either by its sum with the partner's block or by the partner's
block. Element by element this leaves on every device the sum of the four partial products (`out8_sum`), and the four
partial products sum to the product of the whole matrices, its contracted axis cut in four (`total`).
-/
module

public import proofs.«01_k».proof.Proof.Contents
public import Idealize.ShloMosaic.Lib.Layout
public import Idealize.ShloMosaic.Lib.MatmulPlain
public import Idealize.ShloMosaic.Lib.StackMember
public import Idealize.ShloMosaic.Lib.Pipeline.Value

@[expose] public section

noncomputable section

namespace Cert.AllReduce

open Cert.KernelIdeal Cert.KernelIdeal.Gen
open Idealize.ShloMosaic Idealize.ShloMosaic.TcCoe Idealize.ShloMosaic.ValueIdx

/-! ## Blocks of the result buffer, by coordinates -/

/-- The element is in the column half `w` and the row half `h`. -/
abbrev InHalf (w h : ℕ) (i : S1536x1536.Idx) : Prop := (i 1).val / 768 = w ∧ (i 0).val / 384 / 2 = h
/-- The element is in the column half `w` and the row quarter `q`. -/
abbrev InQuarter (w q : ℕ) (i : S1536x1536.Idx) : Prop := (i 1).val / 768 = w ∧ (i 0).val / 384 = q

theorem mem_boxH {off : Fin 2 → ℕ} {inb} {w h : ℕ} (e : off = ![768 * h, 768 * w]) (i : S1536x1536.Idx) :
    i ∈ (boxH off inb).set ↔ InHalf w h i := by
  subst e
  rw [Rect.mem_set_unit, Fin.forall_fin_two]
  show (768 * h ≤ (i 0).val ∧ (i 0).val < 768 * h + 768) ∧ (768 * w ≤ (i 1).val ∧ (i 1).val < 768 * w + 768) ↔ _
  unfold InHalf
  omega

theorem mem_boxQ {off : Fin 2 → ℕ} {inb} {w q : ℕ} (e : off = ![384 * q, 768 * w]) (i : S1536x1536.Idx) :
    i ∈ (boxQ off inb).set ↔ InQuarter w q i := by
  subst e
  rw [Rect.mem_set_unit, Fin.forall_fin_two]
  show (384 * q ≤ (i 0).val ∧ (i 0).val < 384 * q + 384) ∧ (768 * w ≤ (i 1).val ∧ (i 1).val < 768 * w + 768) ↔ _
  unfold InQuarter
  omega

/-- Writing into a rectangle what another buffer holds there gives that buffer inside and the old contents outside. -/
theorem put_get (r : Rect S1536x1536) (f g : Vec Ideal S1536x1536 .f32) (i : S1536x1536.Idx) [Decidable (i ∈ r.set)] :
    (oM.access r).write (Elt Ideal) f (oM.view.readAt (Elt Ideal) r.toLoadRect g) Finset.univ i = if i ∈ r.set then g i else f i := by
  have hs : (oM.access r).setOn Finset.univ = r.set := View.set_slice_whole cc0_stg2_0 r
  rw [View.readAt_rect]
  refine (congrFun (View.write_read_eq_piecewise (v := oM.access r) f g Finset.univ) i).trans ?_
  by_cases h : i ∈ r.set
  · rw [if_pos h]; exact Finset.piecewise_eq_of_mem _ _ _ (hs ▸ h)
  · rw [if_neg h]; exact Finset.piecewise_eq_of_notMem _ _ _ (hs ▸ h)

/-! ## The kinds of store -/

section Stores

variable (f g : Vec Ideal S1536x1536 .f32) (i : S1536x1536.Idx) {off off' : Fin 2 → ℕ} {w n : ℕ}

/-- Another buffer's half, or quarter, is laid over this one. -/
theorem put_half {inb} (e : off = ![768 * n, 768 * w]) :
    putH (F := Ideal) off inb f (getH off inb g) i = if InHalf w n i then g i else f i :=
  (put_get (boxH off inb) f g i).trans (if_congr (mem_boxH e i) rfl rfl)

theorem put_quarter {inb} (e : off = ![384 * n, 768 * w]) :
    putQ (F := Ideal) off inb f (getQ off inb g) i = if InQuarter w n i then g i else f i :=
  (put_get (boxQ off inb) f g i).trans (if_congr (mem_boxQ e i) rfl rfl)

/-- A half is summed: the first exchange's store, for a message read off the partner's buffer at the same place. -/
theorem sum_half {inb inb'} (e : off = ![768 * n, 768 * w]) (e' : off' = off) :
    putH (F := Ideal) off inb f (k0_pay4 (getH off inb f) (k0_pay2 (getH off' inb' g))) i = if InHalf w n i then f i + g i else f i := by
  subst e'
  have hp : k0_pay4 (F := Ideal) (getH off' inb f) (k0_pay2 (getH off' inb' g)) = getH off' inb (fun j => f j + g j) := by
    unfold k0_pay4 k0_pay2
    simp only [shapeCast_self]
    rfl
  rw [hp]
  exact put_half f _ i e

/-- A quarter is summed: the second exchange's store. -/
theorem sum_quarter {inb inb'} (e : off = ![384 * n, 768 * w]) (e' : off' = off) :
    putQ (F := Ideal) off inb f (k0_pay9 (getQ off inb f) (k0_pay8 (getQ off' inb' g))) i = if InQuarter w n i then f i + g i else f i := by
  subst e'
  have hp : k0_pay9 (F := Ideal) (getQ off' inb f) (k0_pay8 (getQ off' inb' g)) = getQ off' inb (fun j => f j + g j) := by
    unfold k0_pay9 k0_pay8
    simp only [shapeCast_self]
    rfl
  rw [hp]
  exact put_quarter f _ i e

/-- A quarter is copied: the third exchange's store. -/
theorem copy_quarter {inb inb'} (e : off = ![384 * n, 768 * w]) (e' : off' = off) :
    putQ (F := Ideal) off inb f (k0_pay13 (k0_pay11 (getQ off' inb' g))) i = if InQuarter w n i then g i else f i := by
  subst e'
  have hp : k0_pay13 (F := Ideal) (k0_pay11 (getQ off' inb' g)) = getQ off' inb g := by
    unfold k0_pay13 k0_pay11
    simp only [shapeCast_self]
    rfl
  rw [hp]
  exact put_quarter f _ i e

/-- A half is copied: the last exchange's store. -/
theorem copy_half {inb inb'} (e : off = ![768 * n, 768 * w]) (e' : off' = off) :
    putH (F := Ideal) off inb f (k0_pay17 (k0_pay15 (getH off' inb' g))) i = if InHalf w n i then g i else f i := by
  subst e'
  have hp : k0_pay17 (F := Ideal) (k0_pay15 (getH off' inb' g)) = getH off' inb g := by
    unfold k0_pay17 k0_pay15
    simp only [shapeCast_self]
    rfl
  rw [hp]
  exact put_half f _ i e

end Stores

/-! ## Where each device stores -/

/-- The row half that a device keeps in the left columns, and in the right columns. -/
def keepL : Dev nD → ℕ := fun | 0 => 0 | 1 => 1 | 2 => 1 | 3 => 0
def keepR : Dev nD → ℕ := fun | 0 => 0 | 1 => 0 | 2 => 1 | 3 => 1
/-- The row half that it gives away. -/
def giveL : Dev nD → ℕ := fun | 0 => 1 | 1 => 0 | 2 => 0 | 3 => 1
def giveR : Dev nD → ℕ := fun | 0 => 1 | 1 => 1 | 2 => 0 | 3 => 0
/-- The row quarter that it finishes, and the one that it gives away. -/
def doneL : Dev nD → ℕ := fun | 0 => 0 | 1 => 2 | 2 => 3 | 3 => 1
def doneR : Dev nD → ℕ := fun | 0 => 0 | 1 => 1 | 2 => 2 | 3 => 3
def restL : Dev nD → ℕ := fun | 0 => 1 | 1 => 3 | 2 => 2 | 3 => 0
def restR : Dev nD → ℕ := fun | 0 => 1 | 1 => 0 | 2 => 3 | 3 => 2

theorem off1_eq (c : Dev nD) : k0_off1 c = ![768 * giveL c, 768 * 0] := by revert c; decide
theorem off2_eq (c : Dev nD) : k0_off2 c = ![768 * giveR c, 768 * 1] := by revert c; decide
theorem off3_eq (c : Dev nD) : k0_off3 c = ![768 * keepL c, 768 * 0] := by revert c; decide
theorem off4_eq (c : Dev nD) : k0_off4 c = ![768 * keepR c, 768 * 1] := by revert c; decide
theorem off5_eq (c : Dev nD) : k0_off5 c = ![384 * restL c, 768 * 0] := by revert c; decide
theorem off6_eq (c : Dev nD) : k0_off6 c = ![384 * restR c, 768 * 1] := by revert c; decide
theorem off7_eq (c : Dev nD) : k0_off7 c = ![384 * doneL c, 768 * 0] := by revert c; decide
theorem off8_eq (c : Dev nD) : k0_off8 c = ![384 * doneR c, 768 * 1] := by revert c; decide

/-- What a device sends is what its partner stores: the eight places agree across each pair. -/
theorem off13 (c : Dev nD) : k0_off1 (pA c) = k0_off3 c := by revert c; decide
theorem off24 (c : Dev nD) : k0_off2 (pB c) = k0_off4 c := by revert c; decide
theorem off57 (c : Dev nD) : k0_off5 (pB c) = k0_off7 c := by revert c; decide
theorem off68 (c : Dev nD) : k0_off6 (pA c) = k0_off8 c := by revert c; decide
theorem off75 (c : Dev nD) : k0_off7 (pB c) = k0_off5 c := by revert c; decide
theorem off86 (c : Dev nD) : k0_off8 (pA c) = k0_off6 c := by revert c; decide
theorem off31 (c : Dev nD) : k0_off3 (pA c) = k0_off1 c := by revert c; decide
theorem off42 (c : Dev nD) : k0_off4 (pB c) = k0_off2 c := by revert c; decide

/-! ## One element through the exchange -/

/-- The partners and the places, device by device. -/
theorem partners : (pA 0 = 1 ∧ pA 1 = 0 ∧ pA 2 = 3 ∧ pA 3 = 2) ∧ (pB 0 = 3 ∧ pB 1 = 2 ∧ pB 2 = 1 ∧ pB 3 = 0) := by decide
theorem halves : (keepL 0 = 0 ∧ keepL 1 = 1 ∧ keepL 2 = 1 ∧ keepL 3 = 0) ∧ (keepR 0 = 0 ∧ keepR 1 = 0 ∧ keepR 2 = 1 ∧ keepR 3 = 1)
    ∧ (giveL 0 = 1 ∧ giveL 1 = 0 ∧ giveL 2 = 0 ∧ giveL 3 = 1) ∧ (giveR 0 = 1 ∧ giveR 1 = 1 ∧ giveR 2 = 0 ∧ giveR 3 = 0) := by decide
theorem quarters : (doneL 0 = 0 ∧ doneL 1 = 2 ∧ doneL 2 = 3 ∧ doneL 3 = 1) ∧ (doneR 0 = 0 ∧ doneR 1 = 1 ∧ doneR 2 = 2 ∧ doneR 3 = 3)
    ∧ (restL 0 = 1 ∧ restL 1 = 3 ∧ restL 2 = 2 ∧ restL 3 = 0) ∧ (restR 0 = 1 ∧ restR 1 = 0 ∧ restR 2 = 3 ∧ restR 3 = 2) := by decide

/-- What holds of each of the four devices holds of every device. -/
theorem each {motive : Dev nD → Prop} (h0 : motive 0) (h1 : motive 1) (h2 : motive 2) (h3 : motive 3) : ∀ c, motive c
  | 0 => h0 | 1 => h1 | 2 => h2 | 3 => h3

/-- One element of the result buffer through the eight stores, for its column half `w` and its row quarter `q`: from the
    four values `P` that the devices start with, every device ends with their sum. -/
theorem exchange (P X1 X2 X3 X4 X5 X6 X7 X8 : Dev nD → EReal) (w q : ℕ) (hw : w < 2) (hq : q < 4)
    (h1 : ∀ c, X1 c = if w = 0 ∧ q / 2 = keepL c then P c + P (pA c) else P c)
    (h2 : ∀ c, X2 c = if w = 1 ∧ q / 2 = keepR c then X1 c + P (pB c) else X1 c)
    (h3 : ∀ c, X3 c = if w = 0 ∧ q = doneL c then X2 c + X2 (pB c) else X2 c)
    (h4 : ∀ c, X4 c = if w = 1 ∧ q = doneR c then X3 c + X2 (pA c) else X3 c)
    (h5 : ∀ c, X5 c = if w = 0 ∧ q = restL c then X4 (pB c) else X4 c)
    (h6 : ∀ c, X6 c = if w = 1 ∧ q = restR c then X4 (pA c) else X5 c)
    (h7 : ∀ c, X7 c = if w = 0 ∧ q / 2 = giveL c then X6 (pA c) else X6 c)
    (h8 : ∀ c, X8 c = if w = 1 ∧ q / 2 = giveR c then X6 (pB c) else X7 c) (c : Dev nD) :
    X8 c = ∑ d : Dev nD, P d := by
  rw [show (∑ d : Dev nD, P d) = P (0 : Dev nD) + P (1 : Dev nD) + P (2 : Dev nD) + P (3 : Dev nD) from Fin.sum_univ_four P]
  interval_cases w <;> interval_cases q <;>
    (simp only [h1, h2, h3, h4, h5, h6, h7, h8]
     revert c
     apply each <;> simp [partners, halves, quarters] <;> ac_rfl)

variable (A : Dev nD → Vec Ideal S1536x768 .bf16) (B : Dev nD → Vec Ideal S768x1536 .bf16)

variable (i : S1536x1536.Idx) (c : Dev nD)

/-! The eight stores, each at an element of the result buffer. -/

theorem out1_apply : out1 A B c i = if InHalf 0 (keepL c) i then out0 A B c i + out0 A B (pA c) i else out0 A B c i := by
  unfold out1 msg0
  exact sum_half (out0 A B c) (out0 A B (pA c)) i (off3_eq c) (off13 c)

theorem out2_apply : out2 A B c i = if InHalf 1 (keepR c) i then out1 A B c i + out0 A B (pB c) i else out1 A B c i := by
  unfold out2 msg1
  exact sum_half (out1 A B c) (out0 A B (pB c)) i (off4_eq c) (off24 c)

theorem out3_apply : out3 A B c i = if InQuarter 0 (doneL c) i then out2 A B c i + out2 A B (pB c) i else out2 A B c i := by
  unfold out3 msg2
  exact sum_quarter (out2 A B c) (out2 A B (pB c)) i (off7_eq c) (off57 c)

theorem out4_apply : out4 A B c i = if InQuarter 1 (doneR c) i then out3 A B c i + out2 A B (pA c) i else out3 A B c i := by
  unfold out4 msg3
  exact sum_quarter (out3 A B c) (out2 A B (pA c)) i (off8_eq c) (off68 c)

theorem out5_apply : out5 A B c i = if InQuarter 0 (restL c) i then out4 A B (pB c) i else out4 A B c i := by
  unfold out5 msg4
  exact copy_quarter (out4 A B c) (out4 A B (pB c)) i (off5_eq c) (off75 c)

theorem out6_apply : out6 A B c i = if InQuarter 1 (restR c) i then out4 A B (pA c) i else out5 A B c i := by
  unfold out6 msg5
  exact copy_quarter (out5 A B c) (out4 A B (pA c)) i (off6_eq c) (off86 c)

theorem out7_apply : out7 A B c i = if InHalf 0 (giveL c) i then out6 A B (pA c) i else out6 A B c i := by
  unfold out7 msg6
  exact copy_half (out6 A B c) (out6 A B (pA c)) i (off1_eq c) (off31 c)

theorem out8_apply : out8 A B c i = if InHalf 1 (giveR c) i then out6 A B (pB c) i else out7 A B c i := by
  unfold out8 msg7
  exact copy_half (out7 A B c) (out6 A B (pB c)) i (off2_eq c) (off42 c)

/-- The result buffer ends, on every device, holding the sum of the four partial products. -/
theorem out8_sum : out8 A B c i = ∑ d : Dev nD, out0 A B d i := by
  have hw : (i 1).val / 768 < 2 := by have h : (i 1).val < 1536 := (i 1).isLt; omega
  have hq : (i 0).val / 384 < 4 := by have h : (i 0).val < 1536 := (i 0).isLt; omega
  exact exchange (out0 A B · i) (out1 A B · i) (out2 A B · i) (out3 A B · i) (out4 A B · i) (out5 A B · i) (out6 A B · i)
    (out7 A B · i) (out8 A B · i) _ _ hw hq (out1_apply A B i) (out2_apply A B i) (out3_apply A B i) (out4_apply A B i)
    (out5_apply A B i) (out6_apply A B i) (out7_apply A B i) (out8_apply A B i) c

/-! ## The sum of the partial products -/

/-- A partial product at an element: the row of the device's column block times the column of its row block. -/
theorem out0_apply (d : Dev nD) (r s : Fin 1536) :
    out0 A B d (ix2 r s) = ∑ k : Fin 768, A d (ix2 r k) * B d (ix2 k s) := by
  unfold out0 k0_pay1
  simp only [shapeCast_self]
  refine (Ideal.matmul_plain_apply (M := 1536) (K := 768) (N := 1536) none (A d) (B d) (constant S1536x1536 .f32 0x00000000#32) r s).trans ?_
  rw [show constant (F := Ideal) S1536x1536 .f32 0x00000000#32 (ix2 r s) = (0 : EReal) from Ideal.ofBits_zero_f32, zero_add]

/-- The sum over the four devices of the products of blocks is the product of the whole matrices. -/
theorem total (M : FVec Ideal ⟨2, ![1536, 3072]⟩ .bf16) (N : FVec Ideal ⟨2, ![3072, 1536]⟩ .bf16)
    (hA : ∀ d : Dev nD, A d = Layout.block ⟨2, ![1536, 768]⟩ ⟨2, ![1536, 3072]⟩ 1 4 d M)
    (hB : ∀ d : Dev nD, B d = Layout.block ⟨2, ![768, 1536]⟩ ⟨2, ![3072, 1536]⟩ 0 4 d N) (c : Dev nD) :
    out8 A B c = Host.dotGeneral (DotDims.plain 1536 3072 1536) none M N := by
  funext i
  obtain ⟨r, s, rfl⟩ : ∃ (r s : Fin 1536), i = ix2 r s := ⟨i 0, i 1, eq_ix2 i⟩
  rw [out8_sum, StackMember.dotGeneral_plain_apply,
    ← Equiv.sum_comp (finProdFinEquiv (m := 4) (n := 768)) (fun k : Fin 3072 => M (ix2 r k) * N (ix2 k s)), Fintype.sum_prod_type]
  refine Finset.sum_congr rfl fun d _ => ?_
  rw [out0_apply]
  refine Finset.sum_congr rfl fun k _ => ?_
  rw [hA, hB, Layout.block_apply, Layout.block_apply]
  have hk : (finProdFinEquiv (d, k)).val = d.val * 768 + k.val := by
    show k.val + 768 * d.val = _
    omega
  congr 2
  · refine Shape.idx_ext₂ ?_ ?_
    · rfl
    · exact hk.symm
  · refine Shape.idx_ext₂ ?_ ?_
    · exact hk.symm
    · rfl

end Cert.AllReduce

end
-- ==== Proof.lean ====
/-
# The five claims

The kernel's run (`Launch`) and the arithmetic of what it leaves (`Value`) are put together here: the three frames, the
idealization, which replaces no operation, and the equation with the reference over the extended reals. `claim` is what
the certificate states (`Cert.Claim`, in Defs.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.AllReduce

/-! ## The arrays at the end of the run -/

section Arrays

open Cert.KernelIdeal Cert.KernelIdeal.Gen Idealize.ShloMosaic.TcCoe

variable {F : FTy → Type} [FloatOps F] (m : (ℓ : Loc nD τ sig) → Buf (Elt F) ℓ) (ρ : Dev nD → PrngReg)

/-- The kernel reads the whole of each operand. -/
theorem inA_eq (c : Dev nD) : inA m ρ c = m ((c.tc : Thread nD τ).loc main_arg0) :=
  Memref.read_access_unit_zero (Elt F) main_arg0 (off := fun a => win0_0.index t0_0 a * main_arg0.ty.shape.size a)
    (funext fun a => by fin_cases a <;> decide) _ _
theorem inB_eq (c : Dev nD) : inB m ρ c = m ((c.tc : Thread nD τ).loc main_arg1) :=
  Memref.read_access_unit_zero (Elt F) main_arg1 (off := fun a => win0_1.index t0_0 a * main_arg1.ty.shape.size a)
    (funext fun a => by fin_cases a <;> decide) _ _

/-- The result array ends holding the whole of what the body leaves in the result's buffer. -/
theorem finalA_out (c : Dev nD) : finalA m ρ c (2 : Fin 3) = out8 (inA m ρ) (inB m ρ) c := by
  unfold finalA
  rw [show cfg0.N = t0_0.val + 1 from rfl, (dats m ρ 0 c).arrAt_succ (2 : Fin 3) t0_0, if_pos (flush0_2 t0_0)]
  refine (Memref.write_access_unit_zero_univ (Elt F) main_v1
    (off := fun a => win0_2.index t0_0 a * main_v1.ty.shape.size a) (funext fun a => by fin_cases a <;> decide) _ _ _).trans ?_
  show result m ρ c = _
  unfold result
  rfl

end Arrays

/-! ## The claims -/

/-- The two printed programs of the kernel have the same bodies, -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, _ => rfl
  | ⟨_ + 1, h⟩, _ => exact absurd h (Nat.not_lt.2 (Nat.le_add_left _ _))

/-- and so the same table of bodies. -/
theorem defs_eq {F : FTy → Type} [FloatOps F] : Cert.Kernel.defs (F := F) = Cert.KernelIdeal.defs (F := F) := by
  unfold Cert.Kernel.defs Cert.KernelIdeal.defs
  rw [bodies_eq]
  rfl

/-- From any memory the kernel's run ends with its operands unchanged and every counter at zero; -/
theorem frame_kernel : Cert.quiescent_Kernel := by
  intro m ρ _
  rw [defs_eq]
  exact (θ_run Cert.KernelIdeal.defs _ _).mono
    (fun _ h => ⟨fun c => ⟨(h.1 c (0 : Fin 3)).trans (finalA_in m ρ c).1, (h.1 c (1 : Fin 3)).trans (finalA_in m ρ c).2⟩, h.2⟩)
    (run_main (F := Bits) m ρ)

/-- so does its run at the ideal values, -/
theorem frame_kernelIdeal : Cert.quiescent_KernelIdeal := fun m ρ _ =>
  (θ_run Cert.KernelIdeal.defs _ _).mono
    (fun _ h => ⟨fun c => ⟨(h.1 c (0 : Fin 3)).trans (finalA_in m ρ c).1, (h.1 c (1 : Fin 3)).trans (finalA_in m ρ c).2⟩, h.2⟩)
    (run_main (F := Ideal) m ρ)

/-- and the reference's. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel is read at the ideal values with no operation replaced. -/
theorem preserves : Cert.preserves_Kernel_KernelIdeal := trivial

/-- The product of the two whole matrices that the reference is given. -/
def whole (m' : (ℓ : Loc Cert.ReferenceIdeal.nD Cert.ReferenceIdeal.τ Cert.ReferenceIdeal.sig) → Buf (Elt Ideal) ℓ) :
    FVec Ideal ⟨2, ![1536, 1536]⟩ .f32 :=
  Host.dotGeneral (F := Ideal) (φ₁ := .bf16) (φ₂ := .bf16) (DotDims.plain 1536 3072 1536) none
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))

/-- On operands cut over the four devices, every device's result is the reference's: the product of the whole matrices. -/
theorem algebraic : Cert.algebraic_KernelIdeal_ReferenceIdeal := by
  intro m ρ m' ρ' _ hcut
  refine ⟨whole m', ?_, ?_⟩
  · refine (θ_run Cert.KernelIdeal.defs _ _).mono
      (fun _ h c => ⟨((h.1 c (2 : Fin 3)).trans (finalA_out m ρ c)).trans ?_, (h.1 c (0 : Fin 3)).trans (finalA_in m ρ c).1,
        (h.1 c (1 : Fin 3)).trans (finalA_in m ρ c).2⟩)
      (run_main (F := Ideal) m ρ)
    exact total (inA m ρ) (inB m ρ) _ _ (fun d => (inA_eq m ρ d).trans (hcut d).1) (fun d => (inB_eq m ρ d).trans (hcut d).2) _
  · exact (θ_run Cert.ReferenceIdeal.defs _ _).mono (fun _ h => h 0) (Cert.ReferenceIdeal.Value.run (F := Ideal) m' ρ')

/-- All the claims of the certificate. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
